-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_where_selected [hPre_finite_where_selected : Cert.Pre_finite_where_selected.Facts] (m : (ℓ : Loc Cert.KernelIdeal.nD Cert.KernelIdeal.τ Cert.KernelIdeal.sig) → Buf (Elt Ideal) ℓ) : Prop :=
  ∀ c : Dev Cert.KernelIdeal.nD,
    (Cert.Pre_finite_where_selected.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_where_selected [hPre_finite_where_selected : Cert.Pre_finite_where_selected.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_where_selected.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_where_selected [hKernelIdeal : Cert.KernelIdeal.Facts] [hPre_finite_where_selected : Cert.Pre_finite_where_selected.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_where_selected m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_where_selected [hReferenceIdeal : Cert.ReferenceIdeal.Facts] [hPre_finite_where_selected : Cert.Pre_finite_where_selected.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_where_selected m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_where_selected [hKernelIdeal : Cert.KernelIdeal.Facts] [hReferenceIdeal : Cert.ReferenceIdeal.Facts] [hPre_finite_where_selected : Cert.Pre_finite_where_selected.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_where_selected m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_where_selected : Cert.Pre_finite_where_selected.Facts),
    quiescent_Kernel (hKernel := hKernel)
    ∧ quiescent_KernelIdeal (hKernelIdeal := hKernelIdeal)
    ∧ quiescent_KernelIdeal_pre_finite_where_selected (hKernelIdeal := hKernelIdeal) (hPre_finite_where_selected := hPre_finite_where_selected)
    ∧ quiescent_ReferenceIdeal (hReferenceIdeal := hReferenceIdeal)
    ∧ quiescent_ReferenceIdeal_pre_finite_where_selected (hReferenceIdeal := hReferenceIdeal) (hPre_finite_where_selected := hPre_finite_where_selected)
    ∧ preserves_Kernel_KernelIdeal
    ∧ algebraic_KernelIdeal_ReferenceIdeal_pre_finite_where_selected (hKernelIdeal := hKernelIdeal) (hReferenceIdeal := hReferenceIdeal) (hPre_finite_where_selected := hPre_finite_where_selected)
-- ==== Pre_finite_where_selected.lean ====
abbrev S64x384x32x32 : Shape := ⟨4, ![64, 384, 32, 32]⟩
abbrev S64x1x32x32 : Shape := ⟨4, ![64, 1, 32, 32]⟩
abbrev S384 : Shape := ⟨1, ![384]⟩
abbrev S_ : Shape := ⟨0, ![]⟩
abbrev S1x384x1x1 : Shape := ⟨4, ![1, 384, 1, 1]⟩

class Facts : Prop where
  bcast_S_S64x384x32x32 : S_.BroadcastsInDim S64x384x32x32 (![] : Fin 0 → Fin S64x384x32x32.rank)
  bcast_S_S384 : S_.BroadcastsInDim S384 (![] : Fin 0 → Fin S384.rank)
  bcast_S384_S1x384x1x1_1 : S384.BroadcastsInDim S1x384x1x1 (![1] : Fin 1 → Fin S1x384x1x1.rank)
  bcast_S1x384x1x1_S64x384x32x32_0_1_2_3 : S1x384x1x1.BroadcastsInDim S64x384x32x32 (![0, 1, 2, 3] : Fin 4 → Fin S64x384x32x32.rank)
  bcast_S64x1x32x32_S64x384x32x32_0_1_2_3 : S64x1x32x32.BroadcastsInDim S64x384x32x32 (![0, 1, 2, 3] : Fin 4 → Fin S64x384x32x32.rank)

variable [Facts]

def fn {F : FTy → Type} [FloatOps F] (main_arg0 : FVec F S64x384x32x32 .f32) (main_arg1 : IVec S64x1x32x32 1) (main_arg2 : FVec F S384 .f32) (main_arg3 : FVec F S384 .f32) : IVec S64x384x32x32 1 :=
  let main_v0 : FVec F S64x384x32x32 .f32 := Host.absf main_arg0
  let main_cst : FVec F S_ .f32 := constant S_ .f32 0x7F800000#32
  let main_v1 : FVec F S64x384x32x32 .f32 := broadcastInDim S64x384x32x32 ![] bcast_S_S64x384x32x32 main_cst
  let main_v2 : IVec S64x384x32x32 1 := cmpf .olt main_v0 main_v1
  let main_v3 : FVec F S384 .f32 := Host.absf main_arg2
  let main_cst_0 : FVec F S_ .f32 := constant S_ .f32 0x7F800000#32
  let main_v4 : FVec F S384 .f32 := broadcastInDim S384 ![] bcast_S_S384 main_cst_0
  let main_v5 : IVec S384 1 := cmpf .olt main_v3 main_v4
  let main_v6 : IVec S1x384x1x1 1 := broadcastInDim S1x384x1x1 ![1] bcast_S384_S1x384x1x1_1 main_v5
  let main_v7 : IVec S64x384x32x32 1 := broadcastInDim S64x384x32x32 ![0, 1, 2, 3] bcast_S1x384x1x1_S64x384x32x32_0_1_2_3 main_v6
  let main_v8 : IVec S64x384x32x32 1 := andi main_v2 main_v7
  let main_v9 : IVec S64x384x32x32 1 := broadcastInDim S64x384x32x32 ![0, 1, 2, 3] bcast_S64x1x32x32_S64x384x32x32_0_1_2_3 main_arg1
  let main_v10 : IVec S64x384x32x32 1 := ori main_v9 main_v8
  main_v10
-- ==== Kernel.lean ====
abbrev S64x384x32x32 : Shape := ⟨4, ![64, 384, 32, 32]⟩
abbrev S64x1x32x32 : Shape := ⟨4, ![64, 1, 32, 32]⟩
abbrev S384 : Shape := ⟨1, ![384]⟩
abbrev S64x32x32x384 : Shape := ⟨4, ![64, 32, 32, 384]⟩
abbrev S65536x384 : Shape := ⟨2, ![65536, 384]⟩
abbrev S64x32x32x1 : Shape := ⟨4, ![64, 32, 32, 1]⟩
abbrev S512x128 : Shape := ⟨2, ![512, 128]⟩
abbrev S8192x384 : Shape := ⟨2, ![8192, 384]⟩
abbrev S16x384 : Shape := ⟨2, ![16, 384]⟩
abbrev S1x1 : Shape := ⟨2, ![1, 1]⟩
abbrev S2x384 : Shape := ⟨2, ![2, 384]⟩
abbrev S1x512x128 : Shape := ⟨3, ![1, 512, 128]⟩
abbrev S1 : Shape := ⟨1, ![1]⟩
abbrev S1x1x1 : Shape := ⟨3, ![1, 1, 1]⟩
abbrev S64x128 : Shape := ⟨2, ![64, 128]⟩
abbrev S1x128 : Shape := ⟨2, ![1, 128]⟩
abbrev S128x1 : Shape := ⟨2, ![128, 1]⟩
abbrev S8192x1 : Shape := ⟨2, ![8192, 1]⟩
abbrev S8x384 : Shape := ⟨2, ![8, 384]⟩
abbrev S1024x8x384 : Shape := ⟨3, ![1024, 8, 384]⟩
abbrev S1x384 : Shape := ⟨2, ![1, 384]⟩

abbrev nBuf : Space → Nat
  | .hbm => 13
  | .vmem => 9
  | .smem => 1
  | _ => 0

abbrev bufTy : (tb : Table) → Fin (tcTables nBuf tb) → BufTy
  | .hbm, ⟨0, _⟩ => ⟨S64x384x32x32, .f32⟩
  | .hbm, ⟨1, _⟩ => ⟨S64x1x32x32, .i1⟩
  | .hbm, ⟨2, _⟩ => ⟨S384, .f32⟩
  | .hbm, ⟨3, _⟩ => ⟨S384, .f32⟩
  | .hbm, ⟨4, _⟩ => ⟨S64x32x32x384, .f32⟩
  | .hbm, ⟨5, _⟩ => ⟨S65536x384, .f32⟩
  | .hbm, ⟨6, _⟩ => ⟨S64x1x32x32, .i1⟩
  | .hbm, ⟨7, _⟩ => ⟨S64x32x32x1, .i1⟩
  | .hbm, ⟨8, _⟩ => ⟨S512x128, .i1⟩
  | .hbm, ⟨9, _⟩ => ⟨S512x128, .f32⟩
  | .hbm, ⟨10, _⟩ => ⟨S65536x384, .f32⟩
  | .hbm, ⟨11, _⟩ => ⟨S64x32x32x384, .f32⟩
  | .hbm, ⟨12, _⟩ => ⟨S64x384x32x32, .f32⟩
  | .local _ .vmem, ⟨0, _⟩ => ⟨S8192x384, .f32⟩
  | .local _ .vmem, ⟨1, _⟩ => ⟨S8192x384, .f32⟩
  | .local _ .vmem, ⟨2, _⟩ => ⟨S512x128, .f32⟩
  | .local _ .vmem, ⟨3, _⟩ => ⟨S384, .f32⟩
  | .local _ .vmem, ⟨4, _⟩ => ⟨S384, .f32⟩
  | .local _ .vmem, ⟨5, _⟩ => ⟨S8192x384, .f32⟩
  | .local _ .vmem, ⟨6, _⟩ => ⟨S8192x384, .f32⟩
  | .local _ .vmem, ⟨7, _⟩ => ⟨S16x384, .f32⟩
  | .local _ .vmem, ⟨8, _⟩ => ⟨S2x384, .f32⟩
  | .local _ .smem, ⟨0, _⟩ => ⟨S1x1, .f32⟩
  | _, _ => ⟨S64x384x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch2 : Ref sig .tc := ⟨.vmem, 8, rfl⟩
abbrev cc0_scratch1 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def k0_mult1 (i : grid0.Coords) : BitVec 32 :=
  let arg0 : BitVec 32 := BitVec.ofNat 32 (i 0).val
  let c8_i32 : BitVec 32 := 8#32
  let v3 : BitVec 32 := Scalar.remsi arg0 c8_i32
  let c64_i32 : BitVec 32 := 64#32
  let v4 : BitVec 32 := Scalar.muli v3 c64_i32
  v4
def k0_off1 (i : grid0.Coords) : Fin 2 → Nat :=
  let arg0 : BitVec 32 := BitVec.ofNat 32 (i 0).val
  let c8_i32 : BitVec 32 := 8#32
  let v3 : BitVec 32 := Scalar.remsi arg0 c8_i32
  let c64_i32 : BitVec 32 := 64#32
  let v4 : BitVec 32 := Scalar.muli v3 c64_i32
  let v5 : BitVec 32 := v4
  let v6 : Index := Scalar.indexCast v5
  let c0 : Index := 0#32
  ![v6.toNat, 0]
def k0_cond4 (i : grid0.Coords) : BitVec 1 :=
  let arg0 : BitVec 32 := BitVec.ofNat 32 (i 0).val
  let c8_i32_5 : BitVec 32 := 8#32
  let v144 : BitVec 1 := Scalar.cmpi .sge arg0 c8_i32_5
  let v145 : BitVec 32 := Scalar.extui v144
  let c0_i32_6 : BitVec 32 := 0#32
  let v146 : BitVec 1 := Scalar.cmpi .ne v145 c0_i32_6
  v146

def cc0_transform_0 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S8192x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8192x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S64x384x32x32 : Shape := ⟨4, ![64, 384, 32, 32]⟩
abbrev S64x1x32x32 : Shape := ⟨4, ![64, 1, 32, 32]⟩
abbrev S384 : Shape := ⟨1, ![384]⟩
abbrev S_ : Shape := ⟨0, ![]⟩
abbrev S1x384x1x1 : Shape := ⟨4, ![1, 384, 1, 1]⟩

abbrev nBuf : Space → Nat
  | .hbm => 39
  | .vmem => 0
  | .smem => 0
  | _ => 0

abbrev bufTy : (tb : Table) → Fin (tcTables nBuf tb) → BufTy
  | .hbm, ⟨0, _⟩ => ⟨S64x384x32x32, .f32⟩
  | .hbm, ⟨1, _⟩ => ⟨S64x1x32x32, .i1⟩
  | .hbm, ⟨2, _⟩ => ⟨S384, .f32⟩
  | .hbm, ⟨3, _⟩ => ⟨S384, .f32⟩
  | .hbm, ⟨4, _⟩ => ⟨S64x1x32x32, .i1⟩
  | .hbm, ⟨5, _⟩ => ⟨S64x1x32x32, .f32⟩
  | .hbm, ⟨6, _⟩ => ⟨S_, .f32⟩
  | .hbm, ⟨7, _⟩ => ⟨S_, .f32⟩
  | .hbm, ⟨8, _⟩ => ⟨S64x384x32x32, .f32⟩
  | .hbm, ⟨9, _⟩ => ⟨S64x384x32x32, .f32⟩
  | .hbm, ⟨10, _⟩ => ⟨S_, .f32⟩
  | .hbm, ⟨11, _⟩ => ⟨S384, .f32⟩
  | .hbm, ⟨12, _⟩ => ⟨S384, .f32⟩
  | .hbm, ⟨13, _⟩ => ⟨S384, .f32⟩
  | .hbm, ⟨14, _⟩ => ⟨S1x384x1x1, .f32⟩
  | .hbm, ⟨15, _⟩ => ⟨S64x384x32x32, .f32⟩
  | .hbm, ⟨16, _⟩ => ⟨S64x384x32x32, .f32⟩
  | .hbm, ⟨17, _⟩ => ⟨S64x384x32x32, .f32⟩
  | .hbm, ⟨18, _⟩ => ⟨S64x384x32x32, .f32⟩
  | .hbm, ⟨19, _⟩ => ⟨S64x384x32x32, .f32⟩
  | .hbm, ⟨20, _⟩ => ⟨S_, .f32⟩
  | .hbm, ⟨21, _⟩ => ⟨S384, .f32⟩
  | .hbm, ⟨22, _⟩ => ⟨S384, .f32⟩
  | .hbm, ⟨23, _⟩ => ⟨S384, .f32⟩
  | .hbm, ⟨24, _⟩ => ⟨S_, .f32⟩
  | .hbm, ⟨25, _⟩ => ⟨S384, .f32⟩
  | .hbm, ⟨26, _⟩ => ⟨S384, .f32⟩
  | .hbm, ⟨27, _⟩ => ⟨S384, .f32⟩
  | .hbm, ⟨28, _⟩ => ⟨S1x384x1x1, .f32⟩
  | .hbm, ⟨29, _⟩ => ⟨S64x384x32x32, .f32⟩
  | .hbm, ⟨30, _⟩ => ⟨S64x384x32x32, .f32⟩
  | .hbm, ⟨31, _⟩ => ⟨S1x384x1x1, .f32⟩
  | .hbm, ⟨32, _⟩ => ⟨S64x384x32x32, .f32⟩
  | .hbm, ⟨33, _⟩ => ⟨S64x384x32x32, .f32⟩
  | .hbm, ⟨34, _⟩ => ⟨S1x384x1x1, .f32⟩
  | .hbm, ⟨35, _⟩ => ⟨S64x384x32x32, .f32⟩
  | .hbm, ⟨36, _⟩ => ⟨S64x384x32x32, .f32⟩
  | .hbm, ⟨37, _⟩ => ⟨S64x384x32x32, .i1⟩
  | .hbm, ⟨38, _⟩ => ⟨S64x384x32x32, .f32⟩
  | _, _ => ⟨S64x384x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_call0_v0 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== Proof.KI.Common.lean ====
/- What the four runs of the kernel body share: the branch conditions of the body in closed form over the grid's
   points, the staging and scratch memrefs it is handed, and the contents it computes, as functions of the contents it
   finds. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.WritesUnit
public import Idealize.ShloMosaic.Lib.VecWindow
public import Idealize.ShloMosaic.Lib.Pipeline.Value
public import Idealize.ShloMosaic.Lib.Pipeline.ReadBack
public import Idealize.ShloMosaic.Lib.Pointwise.Index

@[expose] public section

set_option maxRecDepth 16384

noncomputable section

namespace Cert.KernelIdeal.Norm

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-! ## The four conditions -/

/-- The point is the first: the accumulators are cleared and the count is taken. -/
abbrev isFirst (i : grid0.Coords) : Prop :=
  (Scalar.cmpi .ne (Scalar.extui (Scalar.cmpi .eq (BitVec.ofNat 32 (i 0).val) 0#32)) 0#32) = 1#1
/-- The point lies in the first sweep over the rows: it accumulates. -/
abbrev isSum (i : grid0.Coords) : Prop :=
  (Scalar.cmpi .ne (Scalar.extui (Scalar.cmpi .slt (BitVec.ofNat 32 (i 0).val) 8#32)) 0#32) = 1#1
/-- The point opens the second sweep: scale and shift are computed. -/
abbrev isTurn (i : grid0.Coords) : Prop :=
  (Scalar.cmpi .ne (Scalar.extui (Scalar.cmpi .eq (BitVec.ofNat 32 (i 0).val) 8#32)) 0#32) = 1#1
/-- The point lies in the second sweep: it writes a block of the result. -/
abbrev isOut (i : grid0.Coords) : Prop := k0_cond4 i = 1#1

/-- `isFirst` holds at point 0 only. -/
theorem isFirst_iff : ∀ t : Fin grid0.N, isFirst (grid0.coords t) ↔ t.val = 0 := by decide +kernel
/-- `isSum` holds at points 0 to 7. -/
theorem isSum_iff : ∀ t : Fin grid0.N, isSum (grid0.coords t) ↔ t.val < 8 := by decide +kernel
/-- `isTurn` holds at point 8 only. -/
theorem isTurn_iff : ∀ t : Fin grid0.N, isTurn (grid0.coords t) ↔ t.val = 8 := by decide +kernel
/-- `isOut` holds from point 8 on. -/
theorem isOut_iff : ∀ t : Fin grid0.N, isOut (grid0.coords t) ↔ 8 ≤ t.val := by decide +kernel

/-! ## The memrefs -/

abbrev st0 (t : Fin cfg0.N) : Memref sig .tc .vmem S8192x384 .f32 := win0_0.stage (cfg0.slots t 0)
abbrev st0_whole (t : Fin cfg0.N) : (st0 t).IsWhole := hstage0_0 ((cfg0.slots t 0).cast nbuf0_0)
abbrev st1 (t : Fin cfg0.N) : Memref sig .tc .vmem S512x128 .f32 := win0_1.stage (cfg0.slots t 1)
abbrev st1_whole (t : Fin cfg0.N) : (st1 t).IsWhole := hstage0_1 ((cfg0.slots t 1).cast nbuf0_1)
abbrev st2 (t : Fin cfg0.N) : Memref sig .tc .vmem S384 .f32 := win0_2.stage (cfg0.slots t 2)
abbrev st2_whole (t : Fin cfg0.N) : (st2 t).IsWhole := hstage0_2 ((cfg0.slots t 2).cast nbuf0_2)
abbrev st3 (t : Fin cfg0.N) : Memref sig .tc .vmem S384 .f32 := win0_3.stage (cfg0.slots t 3)
abbrev st3_whole (t : Fin cfg0.N) : (st3 t).IsWhole := hstage0_3 ((cfg0.slots t 3).cast nbuf0_3)
abbrev st4 (t : Fin cfg0.N) : Memref sig .tc .vmem S8192x384 .f32 := win0_4.stage (cfg0.slots t 4)
abbrev st4_whole (t : Fin cfg0.N) : (st4 t).IsWhole := hstage0_4 ((cfg0.slots t 4).cast nbuf0_4)
/-- The scratch that carries the partial sums. -/
abbrev scSums : Memref sig .tc .vmem S16x384 .f32 := Memref.whole cc0_scratch0
/-- The scratch word that carries the number of selected positions. -/
abbrev scCount : Memref sig .tc .smem S1x1 .f32 := Memref.whole cc0_scratch1
/-- The scratch that carries scale and shift. -/
abbrev scAffine : Memref sig .tc .vmem S2x384 .f32 := Memref.whole cc0_scratch2

/-- The invariant before the first point: the scratch buffers owned, at contents nothing names. -/
theorem PhiA_eq (c : Dev nD) :
    (Pipeline.ΦA spec0 c : sProp 𝕄)
      = iprop(iprop((∃ d, owns (c : Thread nD τ) scSums fullShare d) ∗ (∃ d, owns (c : Thread nD τ) scAffine fullShare d)
          ∗ (∃ d, owns (c : Thread nD τ) scCount fullShare d)) ∗ (∃ r, prngReg c r)) := by
  unfold Pipeline.ΦA; rw [scopedRest0_eq]; simp only [scSums, scCount, scAffine, owns_whole]; try rfl

/-! ## What the body computes -/

/-- The 64 rows of the mask the point works on, out of the 512 staged. -/
def maskRows (i : grid0.Coords) (x1 : Vec F S512x128 .f32) : Vec F S64x128 .f32 :=
  View.ld x1 (Rect.unit (s := S512x128) (k0_off1 i) S64x128.size (k0_off1_inb i))

/-- Those rows laid end to end as a column: one weight per row of the block. -/
def weightCol (v7 : Vec F S64x128 .f32) : FVec F S8192x1 .f32 :=
  k0_pay1 (k0_pay13 v7) (k0_pay14 v7) (k0_pay15 v7) (k0_pay16 v7) (k0_pay17 v7) (k0_pay18 v7) (k0_pay19 v7) (k0_pay20 v7)
    (k0_pay21 v7) (k0_pay22 v7) (k0_pay23 v7) (k0_pay24 v7) (k0_pay25 v7) (k0_pay26 v7) (k0_pay27 v7) (k0_pay28 v7)
    (k0_pay29 v7) (k0_pay30 v7) (k0_pay31 v7) (k0_pay32 v7) (k0_pay33 v7) (k0_pay34 v7) (k0_pay35 v7)
    (k0_pay36 (k0_pay13 v7)) (k0_pay37 (k0_pay13 v7)) (k0_pay38 (k0_pay13 v7)) (k0_pay39 (k0_pay13 v7)) (k0_pay40 (k0_pay13 v7))
    (k0_pay41 (k0_pay13 v7)) (k0_pay42 (k0_pay13 v7)) (k0_pay43 (k0_pay13 v7)) (k0_pay44 (k0_pay13 v7)) (k0_pay45 (k0_pay13 v7))
    (k0_pay46 (k0_pay13 v7)) (k0_pay47 (k0_pay13 v7)) (k0_pay48 (k0_pay13 v7)) (k0_pay49 (k0_pay13 v7)) (k0_pay50 (k0_pay13 v7))
    (k0_pay51 (k0_pay13 v7)) (k0_pay52 (k0_pay13 v7)) (k0_pay53 (k0_pay13 v7)) (k0_pay54 (k0_pay13 v7)) (k0_pay55 (k0_pay13 v7))
    (k0_pay56 (k0_pay13 v7)) (k0_pay57 (k0_pay13 v7)) (k0_pay58 (k0_pay13 v7)) (k0_pay59 (k0_pay13 v7)) (k0_pay60 (k0_pay13 v7))
    (k0_pay61 (k0_pay13 v7)) (k0_pay62 (k0_pay13 v7)) (k0_pay63 (k0_pay13 v7)) (k0_pay64 (k0_pay13 v7)) (k0_pay65 (k0_pay13 v7))

/-- Rows 0 to 7 of the partial sums: those of `x·w`. -/
def sumRows (a : Vec F S16x384 .f32) : Vec F S8x384 .f32 :=
  View.ld a (Rect.unit (s := S16x384) ![0, 0] S8x384.size inb_S16x384_S8x384_0_0)
/-- Rows 8 to 15 of the partial sums: those of `x·w·x`. -/
def sqRows (a : Vec F S16x384 .f32) : Vec F S8x384 .f32 :=
  View.ld a (Rect.unit (s := S16x384) ![8, 0] S8x384.size inb_S16x384_S8x384_8_0)

/-- Two eight-row blocks, one above the other. -/
def stack8 (top bot : Vec F S8x384 .f32) : Vec F S16x384 .f32 := fun j =>
  if h : (j 0).val < 8 then top (ix2 (n0 := 8) (n1 := 384) ⟨(j 0).val, h⟩ (j 1))
  else bot (ix2 (n0 := 8) (n1 := 384) ⟨(j 0).val - 8, by have h16 : (j 0).val < 16 := (j 0).isLt; omega⟩ (j 1))

/-- The partial sums after a point of the first sweep that finds them at `a`. -/
def addBlock (i : grid0.Coords) (x0 : Vec F S8192x384 .f32) (x1 : Vec F S512x128 .f32) (a : Vec F S16x384 .f32) :
    Vec F S16x384 .f32 :=
  stack8 (k0_pay4 (weightCol (maskRows i x1)) x0 (sumRows a)) (k0_pay5 (weightCol (maskRows i x1)) x0 (sqRows a))

/-- The number of selected positions, as the scratch word holds it. -/
def countWord (x1 : Vec F S512x128 .f32) : Vec F S1x1 .f32 := fun _ => k0_pay12 x1

/-- Two one-row blocks, one above the other. -/
def stack1 (top bot : Vec F S1x384 .f32) : Vec F S2x384 .f32 := fun j =>
  if (j 0).val = 0 then top (ix2 (n0 := 1) (n1 := 384) 0 (j 1)) else bot (ix2 (n0 := 1) (n1 := 384) 0 (j 1))

/-- The one index of the scratch word. -/
def count0 : S1x1.Idx := fun a => ⟨0, by fin_cases a <;> decide⟩

/-- The scratch word has one index only. -/
theorem count0_eq (j : S1x1.Idx) : j = count0 := by
  funext a
  apply Fin.ext
  have h := (j a).isLt
  fin_cases a
  · have h' : (j 0).val < 1 := (j 0).isLt
    show (j 0).val = 0
    omega
  · have h' : (j 1).val < 1 := (j 1).isLt
    show (j 1).val = 0
    omega

/-- The scalar load of the count, wherever in the one-word buffer it is made. -/
theorem ld_count (k : Vec F S1x1 .f32) {inb : _} (j) : View.ld k (Rect.unit (s := S1x1) ![0, 0] ![1, 1] inb) j = k count0 :=
  congrArg k (count0_eq _)

/-- Scale and shift from the partial sums, the count, `gamma` and `beta`. -/
def affine (a : Vec F S16x384 .f32) (k : Vec F S1x1 .f32) (g b : Vec F S384 .f32) : Vec F S2x384 .f32 :=
  stack1 (k0_pay8 (sumRows a) (sqRows a) (k count0) g)
    (k0_pay9 (sumRows a) (sqRows a) (k count0) g b)

/-- The scale row and the shift row. -/
def scaleRow (s : Vec F S2x384 .f32) : Vec F S1x384 .f32 :=
  View.ld s (Rect.unit (s := S2x384) ![0, 0] S1x384.size inb_S2x384_S1x384_0_0)
def shiftRow (s : Vec F S2x384 .f32) : Vec F S1x384 .f32 :=
  View.ld s (Rect.unit (s := S2x384) ![1, 0] S1x384.size inb_S2x384_S1x384_1_0)

/-- The block of the result a point of the second sweep writes. -/
def outBlock (i : grid0.Coords) (x0 : Vec F S8192x384 .f32) (x1 : Vec F S512x128 .f32) (s : Vec F S2x384 .f32) :
    Vec F S8192x384 .f32 :=
  k0_pay10 (weightCol (maskRows i x1)) x0 (scaleRow s) (shiftRow s)

/-- Rows 8 to 15 stored after rows 0 to 7: the buffer reads the two blocks stacked. -/
theorem read_stack8 {κ : Kind} {sp : Space} (v : View sig κ sp S16x384 .f32) (f : v.ty.Contents (Elt F))
    (L : List (View.Piece (Elt F) S16x384 .f32)) (top bot : Vec F S8x384 .f32) :
    v.read (Elt F) (v.writes (Elt F) f
      ((⟨Rect.unit (s := S16x384) ![8, 0] S8x384.size inb_S16x384_S8x384_8_0, bot⟩ : View.Piece (Elt F) S16x384 .f32)
        :: (⟨Rect.unit (s := S16x384) ![0, 0] S8x384.size inb_S16x384_S8x384_0_0, top⟩ : View.Piece (Elt F) S16x384 .f32) :: L))
      = stack8 top bot := by
  funext j
  have hj : (j 0).val < 16 := (j 0).isLt
  unfold stack8
  by_cases h : (j 0).val < 8
  · rw [dif_pos h]
    exact (View.read_writes_cons_rows_of_not_mem v f inb_S16x384_S8x384_8_0 bot _ j (o := 8) (W := 8) rfl rfl (.inl h)).trans
      (View.read_writes_cons_rows_of_mem v f inb_S16x384_S8x384_0_0 top _ j _ (o := 0) rfl (Nat.zero_add _).symm rfl)
  · rw [dif_neg h]
    exact View.read_writes_cons_rows_of_mem v f inb_S16x384_S8x384_8_0 bot _ j _ (o := 8) rfl
      (by change (j 0).val = 8 + ((j 0).val - 8); omega) rfl

/-- Row 1 stored after row 0: the buffer reads the two rows stacked. -/
theorem read_stack1 {κ : Kind} {sp : Space} (v : View sig κ sp S2x384 .f32) (f : v.ty.Contents (Elt F))
    (L : List (View.Piece (Elt F) S2x384 .f32)) (top bot : Vec F S1x384 .f32) :
    v.read (Elt F) (v.writes (Elt F) f
      ((⟨Rect.unit (s := S2x384) ![1, 0] S1x384.size inb_S2x384_S1x384_1_0, bot⟩ : View.Piece (Elt F) S2x384 .f32)
        :: (⟨Rect.unit (s := S2x384) ![0, 0] S1x384.size inb_S2x384_S1x384_0_0, top⟩ : View.Piece (Elt F) S2x384 .f32) :: L))
      = stack1 top bot := by
  funext j
  have hj : (j 0).val < 2 := (j 0).isLt
  unfold stack1
  by_cases h : (j 0).val = 0
  · rw [if_pos h]
    exact (View.read_writes_cons_rows_of_not_mem v f inb_S2x384_S1x384_1_0 bot _ j (o := 1) (W := 1) rfl rfl (.inl (by omega))).trans
      (View.read_writes_cons_rows_of_mem v f inb_S2x384_S1x384_0_0 top _ j _ (o := 0) rfl (by change (j 0).val = 0 + 0; omega) rfl)
  · rw [if_neg h]
    exact View.read_writes_cons_rows_of_mem v f inb_S2x384_S1x384_1_0 bot _ j _ (o := 1) rfl
      (by change (j 0).val = 1 + 0; omega) rfl

/-- A block stored over the whole buffer: the buffer reads it. -/
theorem read_block {κ : Kind} {sp : Space} (v : View sig κ sp S8192x384 .f32) (f : v.ty.Contents (Elt F)) (w : Vec F S8192x384 .f32) :
    v.read (Elt F) (v.writes (Elt F) f
      [(⟨Rect.unit (s := S8192x384) ![0, 0] S8192x384.size inb_S8192x384_S8192x384_0_0, w⟩ : View.Piece (Elt F) S8192x384 .f32)]) = w :=
  View.read_writes_full v f inb_S8192x384_S8192x384_0_0 w []

theorem off_zero2 : (![0, 0] : Fin 2 → Nat) = fun _ => 0 := funext fun a => by fin_cases a <;> rfl
theorem off_zero1 : (![0] : Fin 1 → Nat) = fun _ => 0 := funext fun a => by fin_cases a; rfl

/-- The upper rows loaded back after the whole buffer was filled: the filling's. -/
theorem cov_sumRows {κ : Kind} {sp : Space} (v : View sig κ sp S16x384 .f32) (z : Vec F S16x384 .f32) :
    v.readCov (Val := Elt F) [(⟨Rect.unit (s := S16x384) ![0, 0] S16x384.size inb_S16x384_S16x384_0_0, z⟩ : View.Piece (Elt F) S16x384 .f32)]
      (Rect.unit (s := S16x384) ![0, 0] S8x384.size inb_S16x384_S8x384_0_0).toLoadRect = sumRows z := by
  rw [View.readCov_eq_canon', View.canon_unit_zero (S := S16x384) off_zero2]
  rfl

/-- The lower rows loaded back after the upper ones were stored over a filling: the filling's. -/
theorem cov_sqRows {κ : Kind} {sp : Space} (v : View sig κ sp S16x384 .f32) (top : Vec F S8x384 .f32) (z : Vec F S16x384 .f32) :
    v.readCov (Val := Elt F) [(⟨Rect.unit (s := S16x384) ![0, 0] S8x384.size inb_S16x384_S8x384_0_0, top⟩ : View.Piece (Elt F) S16x384 .f32),
        (⟨Rect.unit (s := S16x384) ![0, 0] S16x384.size inb_S16x384_S16x384_0_0, z⟩ : View.Piece (Elt F) S16x384 .f32)]
      (Rect.unit (s := S16x384) ![8, 0] S8x384.size inb_S16x384_S8x384_8_0).toLoadRect = sqRows z := by
  rw [View.readCov_eq_canon']
  funext j
  rw [View.canon_cons_of_not_mem, View.canon_unit_zero (S := S16x384) off_zero2]
  · rfl
  · dsimp only
    rw [Rect.mem_set_unit]
    intro h
    have h0 : _ < 0 + 8 := (h 0).2
    change 8 + 1 * (j 0).val < 0 + 8 at h0
    omega

/-- The scale row loaded back after scale and shift were stored. -/
theorem cov_scaleRow {κ : Kind} {sp : Space} (v : View sig κ sp S2x384 .f32) (top bot : Vec F S1x384 .f32) :
    v.readCov (Val := Elt F) [(⟨Rect.unit (s := S2x384) ![1, 0] S1x384.size inb_S2x384_S1x384_1_0, bot⟩ : View.Piece (Elt F) S2x384 .f32),
        (⟨Rect.unit (s := S2x384) ![0, 0] S1x384.size inb_S2x384_S1x384_0_0, top⟩ : View.Piece (Elt F) S2x384 .f32)]
      (Rect.unit (s := S2x384) ![0, 0] S1x384.size inb_S2x384_S1x384_0_0).toLoadRect = scaleRow (stack1 top bot) :=
  funext fun j => congrFun (read_stack1 v v.junk [] top bot) _

/-- The shift row loaded back after scale and shift were stored. -/
theorem cov_shiftRow {κ : Kind} {sp : Space} (v : View sig κ sp S2x384 .f32) (top bot : Vec F S1x384 .f32) :
    v.readCov (Val := Elt F) [(⟨Rect.unit (s := S2x384) ![1, 0] S1x384.size inb_S2x384_S1x384_1_0, bot⟩ : View.Piece (Elt F) S2x384 .f32),
        (⟨Rect.unit (s := S2x384) ![0, 0] S1x384.size inb_S2x384_S1x384_0_0, top⟩ : View.Piece (Elt F) S2x384 .f32)]
      (Rect.unit (s := S2x384) ![1, 0] S1x384.size inb_S2x384_S1x384_1_0).toLoadRect = shiftRow (stack1 top bot) :=
  funext fun j => congrFun (read_stack1 v v.junk [] top bot) _

end Cert.KernelIdeal.Norm

end
-- ==== Proof.KI.RunSum.lean ====
/- One point of the first sweep after the first point: the body adds its block to the partial sums. -/
module

public import proofs.«01_k».proof.Proof.KI.Common

@[expose] public section

set_option maxRecDepth 16384

noncomputable section

namespace Cert.KernelIdeal.Norm

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE BODY AT A POINT THAT ACCUMULATES: it hands every buffer back as it found it but the partial sums, which it
    leaves with the block's contribution added. -/
theorem run_sum (c : Dev nD) (i : grid0.Coords)
    (arg1 : Memref sig .tc .vmem S8192x384 .f32) (harg1 : arg1.IsWhole) (arg2 : Memref sig .tc .vmem S512x128 .f32) (harg2 : arg2.IsWhole)
    (arg3 : Memref sig .tc .vmem S384 .f32) (harg3 : arg3.IsWhole) (arg4 : Memref sig .tc .vmem S384 .f32) (harg4 : arg4.IsWhole)
    (arg5 : Memref sig .tc .vmem S8192x384 .f32) (harg5 : arg5.IsWhole) (arg6 : Memref sig .tc .vmem S16x384 .f32) (harg6 : arg6.IsWhole)
    (arg7 : Memref sig .tc .smem S1x1 .f32) (harg7 : arg7.IsWhole) (arg8 : Memref sig .tc .vmem S2x384 .f32) (harg8 : arg8.IsWhole)
    (hc0 : ¬isFirst i) (hc1 : isSum i) (hc2 : ¬isTurn i) (hc3 : ¬isOut i)
    (x0 : Vec F S8192x384 .f32) (x1 : Vec F S512x128 .f32) (x2 x3 : Vec F S384 .f32) (o : Vec F S8192x384 .f32)
    (a : Vec F S16x384 .f32) (k : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare o ∗ owns (c : Thread nD τ) arg6 fullShare a
        ∗ owns (c : Thread nD τ) arg7 fullShare k ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare o
            ∗ owns (c : Thread nD τ) arg6 fullShare (addBlock i x0 x1 a)
            ∗ owns (c : Thread nD τ) arg7 fullShare k ∗ (∃ d, owns (c : Thread nD τ) arg8 fullShare d)) -∗ K ⟨⟩))
      ⊢ wp frame (wpE (defs₀ (F := F)) Variants.none c none) E
          (cc0__body i arg1 harg1 arg2 harg2 arg3 harg3 arg4 harg4 arg5 harg5 arg6 harg6 arg7 harg7 arg8 harg8) K := by
  simp only [cc0__body_eq_skeleton]; unfold cc0__body_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f6, %hf6, H6⟩, ⟨%f7, %hf7, H7⟩, ⟨%d8, %f8, -, H8⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf6; obtain rfl := harg7.eq_unread hf7
  sl_exec (disch := first | sl_exact hc0 | sl_exact hc1 | sl_exact hc2 | sl_exact hc3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H6]
  · iexists _; isplitr; swap; · iexact H6
    ipureintro
    sl_unfold_words
    rw [read_stack8]
    unfold addBlock weightCol maskRows sumRows sqRows
    simp only [View.readAt_eq_ld, harg1.read_unread, harg2.read_unread, harg6.read_unread, View.ld_unit_zero (S := S8192x384) off_zero2]
    rfl
  isplitl [H7]
  · iexists _; isplitr; · ipureintro; exact harg7.read_unread _
    iexact H7
  iexists _, _; isplitr; swap; · iexact H8
  ipureintro; rfl

end Cert.KernelIdeal.Norm

end
-- ==== Proof.KI.RunOut.lean ====
/- One point of the second sweep after the one that opens it: the body writes its block of the result. -/
module

public import proofs.«01_k».proof.Proof.KI.RunSum

@[expose] public section

set_option maxRecDepth 16384

noncomputable section

namespace Cert.KernelIdeal.Norm

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE BODY AT A POINT THAT WRITES: it hands every buffer back as it found it but the result's, which it leaves holding
    the block normalised by the scale and shift it finds. -/
theorem run_out (c : Dev nD) (i : grid0.Coords)
    (arg1 : Memref sig .tc .vmem S8192x384 .f32) (harg1 : arg1.IsWhole) (arg2 : Memref sig .tc .vmem S512x128 .f32) (harg2 : arg2.IsWhole)
    (arg3 : Memref sig .tc .vmem S384 .f32) (harg3 : arg3.IsWhole) (arg4 : Memref sig .tc .vmem S384 .f32) (harg4 : arg4.IsWhole)
    (arg5 : Memref sig .tc .vmem S8192x384 .f32) (harg5 : arg5.IsWhole) (arg6 : Memref sig .tc .vmem S16x384 .f32) (harg6 : arg6.IsWhole)
    (arg7 : Memref sig .tc .smem S1x1 .f32) (harg7 : arg7.IsWhole) (arg8 : Memref sig .tc .vmem S2x384 .f32) (harg8 : arg8.IsWhole)
    (hc0 : ¬isFirst i) (hc1 : ¬isSum i) (hc2 : ¬isTurn i) (hc3 : isOut i)
    (x0 : Vec F S8192x384 .f32) (x1 : Vec F S512x128 .f32) (x2 x3 : Vec F S384 .f32)
    (a : Vec F S16x384 .f32) (k : Vec F S1x1 .f32) (s : Vec F S2x384 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ owns (c : Thread nD τ) arg6 fullShare a
        ∗ owns (c : Thread nD τ) arg7 fullShare k ∗ owns (c : Thread nD τ) arg8 fullShare s
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outBlock i x0 x1 s)
            ∗ owns (c : Thread nD τ) arg6 fullShare a
            ∗ owns (c : Thread nD τ) arg7 fullShare k ∗ owns (c : Thread nD τ) arg8 fullShare s) -∗ K ⟨⟩))
      ⊢ wp frame (wpE (defs₀ (F := F)) Variants.none c none) E
          (cc0__body i arg1 harg1 arg2 harg2 arg3 harg3 arg4 harg4 arg5 harg5 arg6 harg6 arg7 harg7 arg8 harg8) K := by
  simp only [cc0__body_eq_skeleton]; unfold cc0__body_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f6, %hf6, H6⟩, ⟨%f7, %hf7, H7⟩, ⟨%f8, %hf8, H8⟩, Hk⟩
  obtain rfl := harg1.eq_unread hf0; obtain rfl := harg2.eq_unread hf1; obtain rfl := harg3.eq_unread hf2
  obtain rfl := harg4.eq_unread hf3; obtain rfl := harg6.eq_unread hf6; obtain rfl := harg7.eq_unread hf7; obtain rfl := harg8.eq_unread hf8
  sl_exec (disch := first | sl_exact hc0 | sl_exact hc1 | sl_exact hc2 | sl_exact hc3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro
    sl_unfold_words
    rw [read_block]
    unfold outBlock weightCol maskRows scaleRow shiftRow
    simp only [View.readAt_eq_ld, harg1.read_unread, harg2.read_unread, harg8.read_unread, View.ld_unit_zero (S := S8192x384) off_zero2]
    rfl
  isplitl [H6]
  · iexists _; isplitr; · ipureintro; exact harg6.read_unread _
    iexact H6
  isplitl [H7]
  · iexists _; isplitr; · ipureintro; exact harg7.read_unread _
    iexact H7
  iexists _; isplitr; · ipureintro; exact harg8.read_unread _
  iexact H8

end Cert.KernelIdeal.Norm

end
-- ==== Proof.KI.RunFirst.lean ====
/- The first point: the body clears the partial sums, takes the count and adds its block. -/
module

public import proofs.«01_k».proof.Proof.KI.RunOut

@[expose] public section

set_option maxRecDepth 16384

noncomputable section

namespace Cert.KernelIdeal.Norm

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE BODY AT THE FIRST POINT: it leaves the partial sums at the first block's contribution added to zeros, and the
    count at the sum of the mask. -/
theorem run_first (c : Dev nD) (i : grid0.Coords)
    (arg1 : Memref sig .tc .vmem S8192x384 .f32) (harg1 : arg1.IsWhole) (arg2 : Memref sig .tc .vmem S512x128 .f32) (harg2 : arg2.IsWhole)
    (arg3 : Memref sig .tc .vmem S384 .f32) (harg3 : arg3.IsWhole) (arg4 : Memref sig .tc .vmem S384 .f32) (harg4 : arg4.IsWhole)
    (arg5 : Memref sig .tc .vmem S8192x384 .f32) (harg5 : arg5.IsWhole) (arg6 : Memref sig .tc .vmem S16x384 .f32) (harg6 : arg6.IsWhole)
    (arg7 : Memref sig .tc .smem S1x1 .f32) (harg7 : arg7.IsWhole) (arg8 : Memref sig .tc .vmem S2x384 .f32) (harg8 : arg8.IsWhole)
    (hc0 : isFirst i) (hc1 : isSum i) (hc2 : ¬isTurn i) (hc3 : ¬isOut i)
    (x0 : Vec F S8192x384 .f32) (x1 : Vec F S512x128 .f32) (x2 x3 : Vec F S384 .f32) (o : Vec F S8192x384 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare o ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare o
            ∗ owns (c : Thread nD τ) arg6 fullShare (addBlock i x0 x1 k0_pay11)
            ∗ owns (c : Thread nD τ) arg7 fullShare (countWord x1) ∗ (∃ d, owns (c : Thread nD τ) arg8 fullShare d)) -∗ K ⟨⟩))
      ⊢ wp frame (wpE (defs₀ (F := F)) Variants.none c none) E
          (cc0__body i arg1 harg1 arg2 harg2 arg3 harg3 arg4 harg4 arg5 harg5 arg6 harg6 arg7 harg7 arg8 harg8) K := by
  simp only [cc0__body_eq_skeleton]; unfold cc0__body_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%d7, %f7, -, H7⟩, ⟨%d8, %f8, -, H8⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | sl_exact hc0 | sl_exact hc1 | sl_exact hc2 | sl_exact hc3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H6]
  · iexists _; isplitr; swap; · iexact H6
    ipureintro
    sl_unfold_words
    rw [read_stack8]
    unfold addBlock
    congr 1
    · congr 1
      · unfold weightCol maskRows
        simp only [View.readAt_eq_ld, harg2.read_unread]
        rfl
      · simp only [View.readAt_eq_ld, harg1.read_unread, View.ld_unit_zero (S := S8192x384) off_zero2]
      · exact cov_sumRows _ _
    · congr 1
      · unfold weightCol maskRows
        simp only [View.readAt_eq_ld, harg2.read_unread]
        rfl
      · simp only [View.readAt_eq_ld, harg1.read_unread, View.ld_unit_zero (S := S8192x384) off_zero2]
      · exact cov_sqRows _ _ _
  isplitl [H7]
  · iexists _; isplitr; swap; · iexact H7
    ipureintro
    sl_unfold_words
    simp only [View.readAt_eq_ld, harg2.read_unread, View.ld_unit_zero (S := S512x128) off_zero2]
    exact View.read_writes_full arg7.view f7 inb_S1x1_S1x1_0_0 _ []
  iexists _, _; isplitr; swap; · iexact H8
  ipureintro; rfl

end Cert.KernelIdeal.Norm

end
-- ==== Proof.KI.RunTurn.lean ====
/- The point that opens the second sweep: the body computes scale and shift and writes its block of the result. -/
module

public import proofs.«01_k».proof.Proof.KI.RunFirst

@[expose] public section

set_option maxRecDepth 16384

noncomputable section

namespace Cert.KernelIdeal.Norm

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE BODY AT THE POINT THAT OPENS THE SECOND SWEEP: it leaves scale and shift computed from the sums and the count it
    finds, and the result's buffer holding its block normalised by them. -/
theorem run_turn (c : Dev nD) (i : grid0.Coords)
    (arg1 : Memref sig .tc .vmem S8192x384 .f32) (harg1 : arg1.IsWhole) (arg2 : Memref sig .tc .vmem S512x128 .f32) (harg2 : arg2.IsWhole)
    (arg3 : Memref sig .tc .vmem S384 .f32) (harg3 : arg3.IsWhole) (arg4 : Memref sig .tc .vmem S384 .f32) (harg4 : arg4.IsWhole)
    (arg5 : Memref sig .tc .vmem S8192x384 .f32) (harg5 : arg5.IsWhole) (arg6 : Memref sig .tc .vmem S16x384 .f32) (harg6 : arg6.IsWhole)
    (arg7 : Memref sig .tc .smem S1x1 .f32) (harg7 : arg7.IsWhole) (arg8 : Memref sig .tc .vmem S2x384 .f32) (harg8 : arg8.IsWhole)
    (hc0 : ¬isFirst i) (hc1 : ¬isSum i) (hc2 : isTurn i) (hc3 : isOut i)
    (x0 : Vec F S8192x384 .f32) (x1 : Vec F S512x128 .f32) (x2 x3 : Vec F S384 .f32)
    (a : Vec F S16x384 .f32) (k : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ owns (c : Thread nD τ) arg6 fullShare a
        ∗ owns (c : Thread nD τ) arg7 fullShare k ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outBlock i x0 x1 (affine a k x2 x3))
            ∗ owns (c : Thread nD τ) arg6 fullShare a
            ∗ owns (c : Thread nD τ) arg7 fullShare k ∗ owns (c : Thread nD τ) arg8 fullShare (affine a k x2 x3)) -∗ K ⟨⟩))
      ⊢ wp frame (wpE (defs₀ (F := F)) Variants.none c none) E
          (cc0__body i arg1 harg1 arg2 harg2 arg3 harg3 arg4 harg4 arg5 harg5 arg6 harg6 arg7 harg7 arg8 harg8) K := by
  simp only [cc0__body_eq_skeleton]; unfold cc0__body_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f6, %hf6, H6⟩, ⟨%f7, %hf7, H7⟩, ⟨%d8, %f8, -, H8⟩, Hk⟩
  obtain rfl := harg1.eq_unread hf0; obtain rfl := harg2.eq_unread hf1; obtain rfl := harg3.eq_unread hf2
  obtain rfl := harg4.eq_unread hf3; obtain rfl := harg6.eq_unread hf6; obtain rfl := harg7.eq_unread hf7
  sl_exec (disch := first | sl_exact hc0 | sl_exact hc1 | sl_exact hc2 | sl_exact hc3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro
    sl_unfold_words
    rw [read_block]
    unfold outBlock
    congr 1
    · unfold weightCol maskRows
      simp only [View.readAt_eq_ld, harg2.read_unread]
      rfl
    · simp only [View.readAt_eq_ld, harg1.read_unread, View.ld_unit_zero (S := S8192x384) off_zero2]
    · refine (cov_scaleRow _ _ _).trans (congrArg scaleRow ?_)
      unfold affine sumRows sqRows
      simp only [View.readAt_eq_ld, harg3.read_unread, harg4.read_unread, harg6.read_unread, harg7.read_unread, View.ld_unit_zero (S := S384) off_zero1]
      congr 2 <;> exact ld_count k _
    · refine (cov_shiftRow _ _ _).trans (congrArg shiftRow ?_)
      unfold affine sumRows sqRows
      simp only [View.readAt_eq_ld, harg3.read_unread, harg4.read_unread, harg6.read_unread, harg7.read_unread, View.ld_unit_zero (S := S384) off_zero1]
      congr 2 <;> exact ld_count k _
  isplitl [H6]
  · iexists _; isplitr; · ipureintro; exact harg6.read_unread _
    iexact H6
  isplitl [H7]
  · iexists _; isplitr; · ipureintro; exact harg7.read_unread _
    iexact H7
  iexists _; isplitr; swap; · iexact H8
  ipureintro
  sl_unfold_words
  rw [read_stack1]
  unfold affine sumRows sqRows
  simp only [View.readAt_eq_ld, harg3.read_unread, harg4.read_unread, harg6.read_unread, harg7.read_unread, View.ld_unit_zero (S := S384) off_zero1]
  congr 2 <;> exact ld_count k _

end Cert.KernelIdeal.Norm

end
-- ==== Proof.KI.Frame.lean ====
/- The whole launch: what the three scratch buffers hold between the points, the body at every point, and the run of
   @main around the region, ending with every array at a named value and every counter at zero. -/
module

public import proofs.«01_k».proof.Proof.KI.RunTurn
public import Idealize.ShloMosaic.Lib.Claim

@[expose] public section

set_option maxRecDepth 16384

noncomputable section

namespace Cert.KernelIdeal.Norm

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the scratch buffers hold -/

/-- Point `n` of the grid. -/
abbrev pt (n : ℕ) (h : n < 16) : Fin cfg0.N := ⟨n, lt_of_lt_of_eq h N_0.symm⟩

/-- The block of rows of `x` staged at point `t`. -/
abbrev xBlk (c : Dev nD) (t : Fin cfg0.N) : Vec F S8192x384 .f32 := iblk m c 0 t
/-- The mask staged at point `t`: the whole of it. -/
abbrev wBlk (c : Dev nD) (t : Fin cfg0.N) : Vec F S512x128 .f32 := iblk m c 1 t
/-- `gamma` as staged at point `t`. -/
abbrev gBlk (c : Dev nD) (t : Fin cfg0.N) : Vec F S384 .f32 := iblk m c 2 t
/-- `beta` as staged at point `t`. -/
abbrev bBlk (c : Dev nD) (t : Fin cfg0.N) : Vec F S384 .f32 := iblk m c 3 t

/-- The partial sums before point `n` of the first sweep: zeros, then one block added per point. -/
def sumsAt (c : Dev nD) : ℕ → Vec F S16x384 .f32
  | 0 => k0_pay11
  | n + 1 => if h : n < 8 then addBlock (grid0.coords (pt n (by omega))) (xBlk m c (pt n (by omega))) (wBlk m c (pt n (by omega))) (sumsAt c n)
      else sumsAt c n

/-- The number of selected positions, taken at the first point. -/
def countAt (c : Dev nD) : Vec F S1x1 .f32 := countWord (wBlk m c (pt 0 (by omega)))

/-- Scale and shift, computed at point 8. -/
def affineAt (c : Dev nD) : Vec F S2x384 .f32 :=
  affine (sumsAt m c 8) (countAt m c) (gBlk m c (pt 8 (by omega))) (bBlk m c (pt 8 (by omega)))

/-- One more point of the first sweep. -/
theorem sumsAt_succ (c : Dev nD) (t : Fin cfg0.N) (h : t.val < 8) :
    sumsAt m c (t.val + 1) = addBlock (grid0.coords t) (xBlk m c t) (wBlk m c t) (sumsAt m c t.val) := by
  conv_lhs => unfold sumsAt
  rw [dif_pos h]

/-- The count, as taken at a point that is the first. -/
theorem countAt_eq (c : Dev nD) (t : Fin cfg0.N) (h : t.val = 0) : countAt m c = countWord (wBlk m c t) := by
  rw [show t = pt 0 (by omega) from Fin.ext h]; rfl

/-- Scale and shift, as computed at a point that is the ninth. -/
theorem affineAt_eq (c : Dev nD) (t : Fin cfg0.N) (h : t.val = 8) :
    affineAt m c = affine (sumsAt m c 8) (countAt m c) (gBlk m c t) (bBlk m c t) := by
  rw [show t = pt 8 (by omega) from Fin.ext h]; rfl

/-- Between two points of the first sweep: the partial sums and the count are named, scale and shift are not. -/
def PhiSum (c : Dev nD) (n : ℕ) : sProp 𝕄 :=
  iprop((owns (c : Thread nD τ) scSums fullShare (sumsAt m c n) ∗ (∃ d, owns (c : Thread nD τ) scAffine fullShare d)
    ∗ owns (c : Thread nD τ) scCount fullShare (countAt m c)) ∗ (∃ r, prngReg c r))

/-- Between two points of the second sweep: all three are named. -/
def PhiOut (c : Dev nD) : sProp 𝕄 :=
  iprop((owns (c : Thread nD τ) scSums fullShare (sumsAt m c 8) ∗ owns (c : Thread nD τ) scAffine fullShare (affineAt m c)
    ∗ owns (c : Thread nD τ) scCount fullShare (countAt m c)) ∗ (∃ r, prngReg c r))

/-- What is held before point `n`. -/
def PhiN (c : Dev nD) (n : ℕ) : sProp 𝕄 :=
  if n = 0 then Pipeline.ΦA spec0 c else if n ≤ 8 then PhiSum m c n else PhiOut m c

theorem PhiN_zero (c : Dev nD) {n : ℕ} (h : n = 0) : PhiN m c n = Pipeline.ΦA spec0 c := if_pos h
theorem PhiN_sum (c : Dev nD) {n : ℕ} (h : n ≠ 0) (h8 : n ≤ 8) : PhiN m c n = PhiSum m c n := by
  unfold PhiN; rw [if_neg h, if_pos h8]
theorem PhiN_out (c : Dev nD) {n : ℕ} (h8 : ¬n ≤ 8) : PhiN m c n = PhiOut m c := by
  unfold PhiN; rw [if_neg (by omega), if_neg h8]

/-! ## The proof data -/

/-- The proof data of the region on core `c`: each input's buffer keeps its block, the result's holds the normalised
    block from point 8 on. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock (grid0.coords t) (xBlk m c t) (wBlk m c t) (affineAt m c)
  Φ t := PhiN m c t.val
  q _ := fullShare
  owed _ := 0

theorem A_eq (c : Dev nD) (w : Fin cfg0.W) : (dats m 0 c).A w = V m c (Pipeline.arrRef spec0 w) := by
  dsimp only [dats]
theorem Phi_eq (c : Dev nD) (t : Fin (cfg0.N + 1)) : (dats m 0 c).Φ t = PhiN m c t.val := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = outBlock (grid0.coords t) (xBlk m c t) (wBlk m c t) (affineAt m c) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- The result's block is written back in the second sweep only. -/
theorem flush_4 : ∀ t : Fin cfg0.N, (cfg0.win 4).flush t = true ↔ 8 ≤ t.val :=
  (by decide +kernel : ∀ t : Fin grid0.N, win0_4.flush t = true ↔ 8 ≤ t.val)
/-- The first sweep leaves the result's buffer alone. -/
theorem idle_4 : ∀ t : Fin cfg0.N, cfg0.idle 4 (cfg0.grid.coords t) = true ↔ t.val < 8 :=
  (by decide +kernel : ∀ t : Fin grid0.N, idle0 4 (grid0.coords t) = true ↔ t.val < 8)

theorem leaves_0 (c : Dev nD) (t : Fin cfg0.N) : (dats m 0 c).leavesExact 0 t = owns (c : Thread nD τ) (st0 t) fullShare (xBlk m c t) := by
  unfold Dat.leavesExact; rw [show cfg0.idle 0 (cfg0.grid.coords t) = false from rfl, after_0]
theorem leaves_1 (c : Dev nD) (t : Fin cfg0.N) : (dats m 0 c).leavesExact 1 t = owns (c : Thread nD τ) (st1 t) fullShare (wBlk m c t) := by
  unfold Dat.leavesExact; rw [show cfg0.idle 1 (cfg0.grid.coords t) = false from rfl, after_1]
theorem leaves_2 (c : Dev nD) (t : Fin cfg0.N) : (dats m 0 c).leavesExact 2 t = owns (c : Thread nD τ) (st2 t) fullShare (gBlk m c t) := by
  unfold Dat.leavesExact; rw [show cfg0.idle 2 (cfg0.grid.coords t) = false from rfl, after_2]
theorem leaves_3 (c : Dev nD) (t : Fin cfg0.N) : (dats m 0 c).leavesExact 3 t = owns (c : Thread nD τ) (st3 t) fullShare (bBlk m c t) := by
  unfold Dat.leavesExact; rw [show cfg0.idle 3 (cfg0.grid.coords t) = false from rfl, after_3]
/-- In the first sweep the result's buffer is handed back as it was found. -/
theorem leaves_4_sum (c : Dev nD) (t : Fin cfg0.N) (h : t.val < 8) :
    (dats m 0 c).leavesExact 4 t = iprop(∃ d, owns (c : Thread nD τ) (st4 t) fullShare ((dats m 0 c).before 4 t d)) :=
  (dats m 0 c).leavesExact_idle 4 t ((idle_4 t).mpr h)
    (Bool.eq_false_iff.mpr fun hf => absurd ((flush_4 t).mp hf) (by omega))
/-- In the second sweep it holds the normalised block. -/
theorem leaves_4_out (c : Dev nD) (t : Fin cfg0.N) (h : 8 ≤ t.val) :
    (dats m 0 c).leavesExact 4 t = owns (c : Thread nD τ) (st4 t) fullShare (outBlock (grid0.coords t) (xBlk m c t) (wBlk m c t) (affineAt m c)) := by
  unfold Dat.leavesExact
  rw [show cfg0.idle 4 (cfg0.grid.coords t) = false from Bool.eq_false_iff.mpr fun hi => absurd ((idle_4 t).mp hi) (by omega), after_4]

/-! ## The body at every point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 3200000 in
/-- The body at any point: the run of the point's case applies, the scratch at what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [leaves_0, leaves_1, leaves_2, leaves_3, Phi_eq, Phi_eq, Fin.val_castSucc, Fin.val_succ]
  rw [show (dats m 0 c).owesAt () t.succ = (dats m 0 c).owesAt () t.castSucc from rfl]
  have hN : t.val < 16 := lt_of_lt_of_eq t.isLt (show cfg0.N = 16 from N_0)
  by_cases h0 : t.val = 0
  · rw [PhiN_zero m c h0, PhiN_sum m c (Nat.succ_ne_zero _) (by omega), leaves_4_sum m c t (by omega), PhiA_eq]
    unfold PhiSum
    rw [sumsAt_succ m c t (by omega)]
    rw [show sumsAt m c t.val = k0_pay11 from by rw [h0]; rfl, countAt_eq m c t h0]
    iintro ⟨⟨⟨HS0, HS2, HS1⟩, Hg⟩, Ho, ⟨%d0, H0⟩, ⟨%d1, H1⟩, ⟨%d2, H2⟩, ⟨%d3, H3⟩, ⟨%d4, H4⟩⟩
    iapply (run_first c (grid0.coords t) _ _ _ _ _ _ _ _ _ _ _ _ _ _ _ _
      ((isFirst_iff t).mpr h0) ((isSum_iff t).mpr (by omega))
      (fun h => absurd ((isTurn_iff t).mp h) (by omega)) (fun h => absurd ((isOut_iff t).mp h) (by omega))
      (xBlk m c t) (wBlk m c t) (gBlk m c t) (bBlk m c t) ((dats m 0 c).before 4 t d4) Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    iintro ⟨H0, H1, H2, H3, H4, HS0, HS1, HS2⟩
    isplitl [HS0 HS2 HS1 Hg]
    · isplitl [HS0 HS2 HS1]
      · isplitl [HS0]; · iexact HS0
        isplitl [HS2]; · iexact HS2
        iexact HS1
      iexact Hg
    isplitl [Ho]; · iexact Ho
    isplitl [H0]; · iexact H0
    isplitl [H1]; · iexact H1
    isplitl [H2]; · iexact H2
    isplitl [H3]; · iexact H3
    iexists d4; iexact H4
  by_cases h1 : t.val < 8
  · rw [PhiN_sum m c h0 (by omega), PhiN_sum m c (Nat.succ_ne_zero _) (by omega), leaves_4_sum m c t h1]
    unfold PhiSum
    rw [sumsAt_succ m c t h1]
    iintro ⟨⟨⟨HS0, HS2, HS1⟩, Hg⟩, Ho, ⟨%d0, H0⟩, ⟨%d1, H1⟩, ⟨%d2, H2⟩, ⟨%d3, H3⟩, ⟨%d4, H4⟩⟩
    iapply (run_sum c (grid0.coords t) _ _ _ _ _ _ _ _ _ _ _ _ _ _ _ _
      (fun h => h0 ((isFirst_iff t).mp h)) ((isSum_iff t).mpr h1)
      (fun h => absurd ((isTurn_iff t).mp h) (by omega)) (fun h => absurd ((isOut_iff t).mp h) (by omega))
      (xBlk m c t) (wBlk m c t) (gBlk m c t) (bBlk m c t) ((dats m 0 c).before 4 t d4) (sumsAt m c t.val) (countAt m c) Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    iintro ⟨H0, H1, H2, H3, H4, HS0, HS1, HS2⟩
    isplitl [HS0 HS2 HS1 Hg]
    · isplitl [HS0 HS2 HS1]
      · isplitl [HS0]; · iexact HS0
        isplitl [HS2]; · iexact HS2
        iexact HS1
      iexact Hg
    isplitl [Ho]; · iexact Ho
    isplitl [H0]; · iexact H0
    isplitl [H1]; · iexact H1
    isplitl [H2]; · iexact H2
    isplitl [H3]; · iexact H3
    iexists d4; iexact H4
  by_cases h2 : t.val = 8
  · rw [PhiN_sum m c h0 (by omega), PhiN_out m c (by omega), leaves_4_out m c t (by omega)]
    unfold PhiSum PhiOut
    rw [show sumsAt m c t.val = sumsAt m c 8 from by rw [h2], affineAt_eq m c t h2]
    iintro ⟨⟨⟨HS0, HS2, HS1⟩, Hg⟩, Ho, ⟨%d0, H0⟩, ⟨%d1, H1⟩, ⟨%d2, H2⟩, ⟨%d3, H3⟩, ⟨%d4, H4⟩⟩
    iapply (run_turn c (grid0.coords t) _ _ _ _ _ _ _ _ _ _ _ _ _ _ _ _
      (fun h => h0 ((isFirst_iff t).mp h)) (fun h => h1 ((isSum_iff t).mp h))
      ((isTurn_iff t).mpr h2) ((isOut_iff t).mpr (by omega))
      (xBlk m c t) (wBlk m c t) (gBlk m c t) (bBlk m c t) (sumsAt m c 8) (countAt m c) Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    iintro ⟨H0, H1, H2, H3, H4, HS0, HS1, HS2⟩
    isplitl [HS0 HS2 HS1 Hg]
    · isplitl [HS0 HS2 HS1]
      · isplitl [HS0]; · iexact HS0
        isplitl [HS2]; · iexact HS2
        iexact HS1
      iexact Hg
    isplitl [Ho]; · iexact Ho
    isplitl [H0]; · iexact H0
    isplitl [H1]; · iexact H1
    isplitl [H2]; · iexact H2
    isplitl [H3]; · iexact H3
    iexact H4
  · rw [PhiN_out m c (by omega), PhiN_out m c (by omega), leaves_4_out m c t (by omega)]
    unfold PhiOut
    iintro ⟨⟨⟨HS0, HS2, HS1⟩, Hg⟩, Ho, ⟨%d0, H0⟩, ⟨%d1, H1⟩, ⟨%d2, H2⟩, ⟨%d3, H3⟩, ⟨%d4, H4⟩⟩
    iapply (run_out c (grid0.coords t) _ _ _ _ _ _ _ _ _ _ _ _ _ _ _ _
      (fun h => h0 ((isFirst_iff t).mp h)) (fun h => h1 ((isSum_iff t).mp h))
      (fun h => h2 ((isTurn_iff t).mp h)) ((isOut_iff t).mpr (by omega))
      (xBlk m c t) (wBlk m c t) (gBlk m c t) (bBlk m c t) (sumsAt m c 8) (countAt m c) (affineAt m c) Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    iintro ⟨H0, H1, H2, H3, H4, HS0, HS1, HS2⟩
    isplitl [HS0 HS2 HS1 Hg]
    · isplitl [HS0 HS2 HS1]
      · isplitl [HS0]; · iexact HS0
        isplitl [HS2]; · iexact HS2
        iexact HS1
      iexact Hg
    isplitl [Ho]; · iexact Ho
    isplitl [H0]; · iexact H0
    isplitl [H1]; · iexact H1
    isplitl [H2]; · iexact H2
    isplitl [H3]; · iexact H3
    iexact H4

/-- The body table's row at point `t`'s slots is the body at that point. -/
theorem defs_row (t : Fin cfg0.N) :
    defs₀ (F := F) .tc cfg0.body (cfg0.bodyArgs t (cfg0.slots t)) = bodyAt0 t := by
  unfold defs₀; rw [Defs.onTc_tc]

/-- The body obligation of the region, at every point. -/
theorem body_obligation (c : Dev nD) : BodyObligation (dats (F := F) m 0 c) (defs₀ (F := F)) Variants.none () Set.univ := fun t => by
  rw [bigSep_W0, bigSep_W0, defs_row]
  exact sound_body m c t

/-- What the launch hands the region is the invariant before the first point. -/
theorem hin (c : Dev nD) : Pipeline.ΦA spec0 c ⊢ (dats m 0 c).Φ 0 := by
  rw [Phi_eq, PhiN_zero m c (n := ((0 : Fin (cfg0.N + 1)) : ℕ)) rfl]

/-- After the last point the scratch buffers are given back, their contents forgotten. -/
theorem hout (c : Dev nD) : (dats m 0 c).Φ (Fin.last cfg0.N) ⊢ Pipeline.ΦA spec0 c := by
  rw [Phi_eq, Fin.val_last, PhiN_out m c (by have : cfg0.N = 16 := N_0; omega), PhiA_eq]
  unfold PhiOut
  iintro ⟨⟨HS0, HS2, HS1⟩, Hg⟩
  isplitl [HS0 HS2 HS1]
  · isplitl [HS0]
    · iexists _; iexact HS0
    isplitl [HS2]
    · iexists _; iexact HS2
    iexists _; iexact HS1
  iexact Hg

/-! ## The run -/

set_option backward.isDefEq.respectTransparency.types false in
set_option maxHeartbeats 800000 in
/-- THE RUN of @main: every weakly fair execution terminates with the region's arrays and every other buffer at named
    values, and with every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The run without the counters. -/
theorem run_arrays : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main m ρ)

/-- THE FRAME: every weakly fair execution terminates with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_arrays m ρ)) ((θ_run defs _ _).mono (fun _ h => h.2) (run_main m ρ))

end Cert.KernelIdeal.Norm

end
-- ==== Proof.KI.Pre.lean ====
module

public import proofs.«01_k».proof.Pre_finite_where_selected

@[expose] public section

namespace Cert.Pre_finite_where_selected.Shapes

open Idealize.ShloMosaic

/-- The shape relations the precondition's broadcasts take hold. -/
instance facts : Cert.Pre_finite_where_selected.Facts where
  bcast_S_S64x384x32x32 := by decide
  bcast_S_S384 := by decide
  bcast_S384_S1x384x1x1_1 := by decide
  bcast_S1x384x1x1_S64x384x32x32_0_1_2_3 := by decide
  bcast_S64x1x32x32_S64x384x32x32_0_1_2_3 := by decide

end Cert.Pre_finite_where_selected.Shapes

end
-- ==== Proof.KI.Weights.lean ====
/- The column of weights a grid point works with, read at an index: one weight per row of the block, the mask's own
   entry at that row. -/
module

public import proofs.«01_k».proof.Proof.KI.Common
public import Idealize.ShloMosaic.Lib.Pointwise

@[expose] public section

set_option maxRecDepth 16384

noncomputable section

namespace Cert.KernelIdeal.Norm

open Cert.KernelIdeal.Gen
open Idealize.ShloMosaic

variable {F : FTy → Type} [FloatOps F]

/-- Any one of the 64 rows can be cut out of the mask's rows. -/
theorem row_slices (k : Fin 64) : S64x128.Slices ![k.val, 0] S1x128 := by
  revert k; decide

/-- Row `k` of the mask's rows, turned into a column. -/
def colOf (v8 : FVec F S64x128 .f32) (k : Fin 64) : FVec F S128x1 .f32 :=
  transpose S128x1 [1, 0] (extractStridedSlice S1x128 ![k.val, 0] v8 (row_slices k)) transposes_S1x128_p1_0_S128x1

/-- Entry `p` of that column is entry `p` of the row. -/
theorem colOf_apply (v8 : FVec F S64x128 .f32) (k : Fin 64) (p : Fin 128) (b : Fin 1) :
    colOf v8 k (ix2 p b) = v8 (ix2 k p) := by
  unfold colOf
  have hb : b = 0 := Subsingleton.elim _ _
  subst hb
  simp only [pointwise]
  congr 1
  congr 1 <;> exact Fin.ext (by simp)

/-- Columns of 128 entries laid end to end: entry `c` of the whole is entry `c % 128` of column `c / 128`. -/
theorem concat_cols {α : Type} (j : S8192x1.Idx) (f : ℕ → S128x1.Idx → α) :
    ∀ (n k : ℕ) (xs : List ((s : Shape) × (s.Idx → α)))
      (hxs : xs = (List.range' k n).map fun i => (⟨S128x1, f i⟩ : (s : Shape) × (s.Idx → α)))
      (hs : ∀ s ∈ xs.map (·.1), s.FitsOff S8192x1 0) (c : ℕ) (hc : c < (axisSizes S8192x1 0 xs).sum),
      concatenateAt S8192x1 0 j xs hs c hc = f (k + c / 128) (ix2 ⟨c % 128, Nat.mod_lt _ (by decide)⟩ (j 1)) := by
  intro n
  induction n with
  | zero =>
    intro k xs hxs hs c hc
    subst hxs
    exact absurd hc (Nat.not_lt_zero _)
  | succ n ih =>
    intro k xs hxs hs c hc
    cases n with
    | zero =>
      simp only [List.range'_succ, List.range'_zero, List.map_cons, List.map_nil] at hxs
      subst hxs
      have hc' : c < 128 := by simpa [axisSizes] using hc
      rw [concatenateAt_singleton, Shape.Idx.norm2]
      rw [show k + c / 128 = k by omega]
      congr 1
      apply (ix2_inj _ _ _ _).mpr
      constructor
      · exact Fin.ext (by simp; omega)
      · exact Fin.ext (by simp)
    | succ n =>
      rw [List.range'_succ, List.map_cons, List.range'_succ, List.map_cons] at hxs
      subst hxs
      rw [concatenateAt_cons]
      by_cases h : c < 128
      · refine (dif_pos h).trans ?_
        rw [Shape.Idx.norm2, show k + c / 128 = k by omega]
        congr 1
        apply (ix2_inj _ _ _ _).mpr
        constructor
        · exact Fin.ext (by simp; omega)
        · exact Fin.ext (by simp)
      · refine (dif_neg h).trans ?_
        have := ih (k + 1) _ (by rw [List.range'_succ, List.map_cons]) (fun s' h => hs s' (List.mem_cons_of_mem _ h)) (c - 128)
          (by
            have := hc
            rw [axisSizes_cons S8192x1 0 _ _ (hs _ List.mem_cons_self), List.sum_cons] at this
            exact Nat.sub_lt_left_of_lt_add (Nat.le_of_not_lt h) this)
        refine this.trans ?_
        rw [show k + 1 + (c - 128) / 128 = k + c / 128 by omega]
        congr 1
        apply (ix2_inj _ _ _ _).mpr
        exact ⟨Fin.ext (by simp; omega), rfl⟩

/-- The column of weights, entry by entry. -/
theorem weightCol_apply (v7 : Vec F S64x128 .f32) (p : Fin 8192) (b : Fin 1) :
    weightCol v7 (ix2 p b) = v7 (ix2 ⟨p.val / 128, by omega⟩ ⟨p.val % 128, Nat.mod_lt _ (by decide)⟩) := by
  have hp := p.isLt
  have h13 : k0_pay13 v7 = v7 := by unfold k0_pay13; exact shapeCast_id _ _
  unfold weightCol k0_pay1
  dsimp only
  rw [concatenate_apply]
  refine (concat_cols (ix2 p b) (fun i => if h : i < 64 then colOf (k0_pay13 v7) ⟨i, h⟩ else fun _ => v7 (ix2 0 0)) 64 0 _ ?_ _ _ _).trans ?_
  · rfl
  · dsimp only
    have hq : 0 + p.val / 128 < 64 := by omega
    refine (congrFun (dif_pos hq) _).trans ((colOf_apply _ _ _ _).trans ?_)
    rw [h13]
    congr 1
    apply (ix2_inj _ _ _ _).mpr
    exact ⟨Fin.ext (by simp), rfl⟩

/-- Where the rows of the mask a point works on begin. -/
theorem maskOff_0 : ∀ t : Fin grid0.N, k0_off1 (grid0.coords t) 0 = t.val % 8 * 64 := by decide +kernel
theorem maskOff_1 : ∀ t : Fin grid0.N, k0_off1 (grid0.coords t) 1 = 0 := by decide +kernel

/-- The rows of the mask a point works on: 64 of the 512, from row `64·(t mod 8)` on. -/
theorem maskRows_apply (t : Fin grid0.N) (x1 : Vec F S512x128 .f32) (a : Fin 64) (b : Fin 128) :
    maskRows (grid0.coords t) x1 (ix2 a b) = x1 (ix2 ⟨t.val % 8 * 64 + a.val, by omega⟩ b) := by
  unfold maskRows
  show x1 _ = _
  congr 1
  refine (eq_ix2 _).trans ((ix2_inj _ _ _ _).mpr ⟨Fin.ext ?_, Fin.ext ?_⟩)
  · show k0_off1 (grid0.coords t) 0 + 1 * a.val = _
    rw [maskOff_0]; simp
  · show k0_off1 (grid0.coords t) 1 + 1 * b.val = _
    rw [maskOff_1]; simp

/-- The weight of row `p` of the block at point `t`. -/
theorem weights_apply (t : Fin grid0.N) (x1 : Vec F S512x128 .f32) (p : Fin 8192) (b : Fin 1) :
    weightCol (maskRows (grid0.coords t) x1) (ix2 p b)
      = x1 (ix2 ⟨t.val % 8 * 64 + p.val / 128, by omega⟩ ⟨p.val % 128, Nat.mod_lt _ (by decide)⟩) := by
  rw [weightCol_apply, maskRows_apply]

end Cert.KernelIdeal.Norm

end
-- ==== Proof.KI.Blocks.lean ====
/- What the kernel body computes on one block, over the extended reals, read at an index: the two partial sums, the
   count, scale and shift, and the normalised block. -/
module

public import proofs.«01_k».proof.Proof.KI.Weights
public import Idealize.ShloMosaic.PureOps.Ideal

@[expose] public section

set_option maxRecDepth 16384

noncomputable section

namespace Cert.KernelIdeal.Norm

open Cert.KernelIdeal.Gen
open Idealize.ShloMosaic

/-- The word of `0.0` is zero. -/
theorem zero_word : Ideal.ofBits .f32 0x00000000#32 = 0 := by simp [Ideal.ofBits, Ideal.ieee]

/-- One step of the sums of `x·w`: to row `r` are added the rows of the block whose number is `r` modulo 8. -/
theorem pay4_apply (w : FVec Ideal S8192x1 .f32) (x : Vec Ideal S8192x384 .f32) (s : Vec Ideal S8x384 .f32) (r : Fin 8) (ch : Fin 384) :
    k0_pay4 w x s (ix2 r ch) = (s (ix2 r ch) + ∑ g : Fin 1024,
      x (ix2 ⟨g.val * 8 + r.val, by omega⟩ ch) * w (ix2 ⟨g.val * 8 + r.val, by omega⟩ 0) : EReal) := by
  unfold k0_pay4 k0_pay3 k0_pay2
  dsimp only
  simp only [pointwise]
  rfl

theorem pay5_apply (w : FVec Ideal S8192x1 .f32) (x : Vec Ideal S8192x384 .f32) (s : Vec Ideal S8x384 .f32) (r : Fin 8) (ch : Fin 384) :
    k0_pay5 w x s (ix2 r ch) = (s (ix2 r ch) + ∑ g : Fin 1024,
      x (ix2 ⟨g.val * 8 + r.val, by omega⟩ ch) * w (ix2 ⟨g.val * 8 + r.val, by omega⟩ 0)
        * x (ix2 ⟨g.val * 8 + r.val, by omega⟩ ch) : EReal) := by
  unfold k0_pay5 k0_pay3 k0_pay2
  dsimp only
  simp only [pointwise]
  rfl

theorem pay6_apply (s : Vec Ideal S8x384 .f32) (k : Elt Ideal .f32) (a : Fin 1) (ch : Fin 384) :
    k0_pay6 s k (ix2 a ch) = Ideal.div (∑ r : Fin 8, s (ix2 r ch)) k := by
  unfold k0_pay6
  dsimp only
  simp only [pointwise]

theorem pay12_apply (w : Vec Ideal S512x128 .f32) :
    k0_pay12 w = (∑ a : Fin 512, ∑ b : Fin 128, w (ix2 a b) : EReal) := by
  unfold k0_pay12
  dsimp only
  simp only [pointwise]

theorem pay11_apply (j : S16x384.Idx) : k0_pay11 (F := Ideal) j = (0 : EReal) := by
  unfold k0_pay11
  simp only [pointwise]

theorem pay10_apply (w : FVec Ideal S8192x1 .f32) (x : Vec Ideal S8192x384 .f32) (s t : Vec Ideal S1x384 .f32) (p : Fin 8192) (ch : Fin 384) :
    k0_pay10 w x s t (ix2 p ch) = if (0 : EReal) < w (ix2 p 0) then (x (ix2 p ch) * s (ix2 0 ch) + t (ix2 0 ch) : EReal) else x (ix2 p ch) := by
  unfold k0_pay10
  simp only [pointwise]
  rfl

end Cert.KernelIdeal.Norm

end
-- ==== Proof.KI.Arrays.lean ====
/- The arrays the kernel's windows read, at an index: the blocks staged at a grid point as parts of the arrays, and the
   arrays as parts of the arguments. -/
module

public import proofs.«01_k».proof.Proof.KI.Frame
public import Idealize.ShloMosaic.Lib.Pointwise
public import Idealize.ShloMosaic.Lib.StableHlo.Run

@[expose] public section

set_option maxRecDepth 16384

noncomputable section

namespace Cert.KernelIdeal.Norm

open Cert.KernelIdeal.Gen
open Idealize.ShloMosaic Idealize.ShloMosaic.TcCoe

variable {F : FTy → Type} [FloatOps F]
variable (m : (ℓ : Loc nD τ sig) → Buf (Elt F) ℓ)

/-- `x` as the launch finds it. -/
abbrev argX (c : Dev nD) : Vec F S64x384x32x32 .f32 := m ((c.tc : Thread nD τ).loc main_arg0)
/-- The mask as the launch finds it. -/
abbrev argM (c : Dev nD) : Vec F S64x1x32x32 .i1 := m ((c.tc : Thread nD τ).loc main_arg1)
/-- `gamma` as the launch finds it. -/
abbrev argG (c : Dev nD) : Vec F S384 .f32 := m ((c.tc : Thread nD τ).loc main_arg2)
/-- `beta` as the launch finds it. -/
abbrev argB (c : Dev nD) : Vec F S384 .f32 := m ((c.tc : Thread nD τ).loc main_arg3)

/-- The rows of `x` the region works on. -/
abbrev rowsX (c : Dev nD) : Vec F S65536x384 .f32 := V m c main_v1
/-- The weights the region works on. -/
abbrev rowsW (c : Dev nD) : Vec F S512x128 .f32 := V m c main_v5

/-- The image, the line and the place in the line of a row of `x`. -/
abbrev imgOf (i : Fin 65536) : Fin 64 := ⟨i.val / 1024, by omega⟩
abbrev lineOf (i : Fin 65536) : Fin 32 := ⟨i.val / 32 % 32, by omega⟩
abbrev placeOf (i : Fin 65536) : Fin 32 := ⟨i.val % 32, by omega⟩

theorem index_0 : ∀ t : Fin cfg0.N, win0_0.index t 0 = t.val % 8 ∧ win0_0.index t 1 = 0 := by decide +kernel
theorem index_1 : ∀ t : Fin cfg0.N, win0_1.index t 0 = 0 ∧ win0_1.index t 1 = 0 := by decide +kernel
theorem index_2 : ∀ t : Fin cfg0.N, win0_2.index t 0 = 0 := by decide +kernel
theorem index_3 : ∀ t : Fin cfg0.N, win0_3.index t 0 = 0 := by decide +kernel
theorem index_4 : ∀ t : Fin cfg0.N, win0_4.index t 0 = t.val - 8 ∧ win0_4.index t 1 = 0 := by decide +kernel

/-- The block of `x` staged at a point: 8192 rows of it. -/
theorem xBlk_apply (c : Dev nD) (t : Fin cfg0.N) (p : Fin 8192) (ch : Fin 384) :
    xBlk m c t (ix2 p ch) = rowsX m c (ix2 ⟨t.val % 8 * 8192 + p.val, by omega⟩ ch) := by
  unfold xBlk iblk
  rw [View.read_apply]
  show V m c main_v1 _ = _
  congr 1
  refine (eq_ix2 _).trans ((ix2_inj _ _ _ _).mpr ⟨Fin.ext ?_, Fin.ext ?_⟩)
  · show win0_0.index t 0 * 8192 + 1 * p.val = _
    rw [(index_0 t).1]; simp
  · show win0_0.index t 1 * 384 + 1 * ch.val = _
    rw [(index_0 t).2]; simp

/-- The weights staged at a point: all of them. -/
theorem wBlk_apply (c : Dev nD) (t : Fin cfg0.N) (a : Fin 512) (b : Fin 128) :
    wBlk m c t (ix2 a b) = rowsW m c (ix2 a b) := by
  unfold wBlk iblk
  rw [View.read_apply]
  show V m c main_v5 _ = _
  congr 1
  refine (eq_ix2 _).trans ((ix2_inj _ _ _ _).mpr ⟨Fin.ext ?_, Fin.ext ?_⟩)
  · show win0_1.index t 0 * 512 + 1 * a.val = _
    rw [(index_1 t).1]; simp
  · show win0_1.index t 1 * 128 + 1 * b.val = _
    rw [(index_1 t).2]; simp

/-- `gamma` staged at a point is `gamma`. -/
theorem gBlk_apply (c : Dev nD) (t : Fin cfg0.N) (ch : Fin 384) : gBlk m c t (ix1 ch) = argG m c (ix1 ch) := by
  unfold gBlk iblk
  rw [View.read_apply]
  show V m c main_arg2 _ = _
  rw [V_main_arg2 m c]
  congr 1
  refine (eq_ix1 _).trans (congrArg ix1 (Fin.ext ?_))
  show win0_2.index t 0 * 384 + 1 * ch.val = _
  rw [index_2 t]; simp

/-- `beta` staged at a point is `beta`. -/
theorem bBlk_apply (c : Dev nD) (t : Fin cfg0.N) (ch : Fin 384) : bBlk m c t (ix1 ch) = argB m c (ix1 ch) := by
  unfold bBlk iblk
  rw [View.read_apply]
  show V m c main_arg3 _ = _
  rw [V_main_arg3 m c]
  congr 1
  refine (eq_ix1 _).trans (congrArg ix1 (Fin.ext ?_))
  show win0_3.index t 0 * 384 + 1 * ch.val = _
  rw [index_3 t]; simp

/-- Row `i` of the array of rows: the channels of `x` at one place of one image. -/
theorem rowsX_apply (c : Dev nD) (i : Fin 65536) (ch : Fin 384) :
    rowsX m c (ix2 i ch) = argX m c (ix4 (imgOf i) ch (lineOf i) (placeOf i)) := by
  have hV : rowsX m c = shapeCast S65536x384 (transpose S64x32x32x384 [0, 2, 3, 1] (argX m c) transposes_S64x384x32x32_S64x32x32x384_0_2_3_1)
      shapeCasts_S64x32x32x384_S65536x384 := by unfold rowsX V V0; after_results_simp; rfl
  rw [hV]
  simp only [pointwise]

/-- The weight of row `i`: one where the mask is off. -/
theorem rowsW_apply (c : Dev nD) (i : Fin 65536) :
    rowsW m c (ix2 ⟨i.val / 128, by omega⟩ ⟨i.val % 128, by omega⟩)
      = FloatOps.uitofp .f32 (~~~argM m c (ix4 (imgOf i) 0 (lineOf i) (placeOf i))) := by
  have hV : rowsW m c = uitofp .f32 (shapeCast S512x128 (transpose S64x32x32x1 [0, 2, 3, 1] (noti (argM m c)) transposes_S64x1x32x32_S64x32x32x1_0_2_3_1)
      shapeCasts_S64x32x32x1_S512x128) := by unfold rowsW V V0; after_results_simp; rfl
  rw [hV]
  simp only [pointwise]
  refine congrArg (fun j => FloatOps.uitofp .f32 (~~~argM m c j)) ((ix4_inj _ _ _ _ _ _ _ _).mpr ⟨Fin.ext ?_, rfl, Fin.ext ?_, Fin.ext ?_⟩) <;> dsimp only <;> omega

end Cert.KernelIdeal.Norm

end
-- ==== Proof.Split.lean ====
/- Sums over the rows of an array, taken block by block. -/
module

public import Idealize.ShloMosaic.PureOps.Ideal

@[expose] public section

noncomputable section

namespace Cert.Masked

variable {M : Type} [AddCommMonoid M]

/-- A sum over `a·b` positions is the sum over `a` blocks of the sums over the `b` positions of each. -/
theorem sum_blocks {N : ℕ} (a b : ℕ) (h : N = a * b) (f : Fin N → M) :
    (∑ i, f i) = ∑ k : Fin a, ∑ p : Fin b, f ⟨k.val * b + p.val, by
      subst h
      calc k.val * b + p.val < k.val * b + b := Nat.add_lt_add_left p.isLt _
        _ = (k.val + 1) * b := (Nat.succ_mul _ _).symm
        _ ≤ a * b := Nat.mul_le_mul_right _ k.isLt⟩ := by
  subst h
  rw [← Fintype.sum_prod_type']
  refine (Fintype.sum_equiv finProdFinEquiv _ _ fun x => congrArg f (Fin.ext ?_)).symm
  show x.1.val * b + x.2.val = x.2.val + b * x.1.val
  rw [Nat.mul_comm, Nat.add_comm]

/-- The 65536 rows taken as the kernel takes them: eight residues, for each the eight blocks of 8192 rows, in each the
    1024 rows of that residue. -/
theorem sum_residues (f : Fin 65536 → M) :
    (∑ r : Fin 8, ∑ k : Fin 8, ∑ g : Fin 1024, f ⟨k.val * 8192 + (g.val * 8 + r.val), by omega⟩) = ∑ i, f i := by
  rw [sum_blocks 8 8192 (by norm_num) f, Finset.sum_comm]
  refine Finset.sum_congr rfl fun k _ => ?_
  exact Finset.sum_comm.trans (sum_blocks 1024 8 (by norm_num) fun p : Fin 8192 => f ⟨k.val * 8192 + p.val, by omega⟩).symm

/-- The 65536 rows as 512 lines of 128. -/
theorem sum_lines (f : Fin 65536 → M) :
    (∑ a : Fin 512, ∑ b : Fin 128, f ⟨a.val * 128 + b.val, by omega⟩) = ∑ i, f i :=
  (sum_blocks 512 128 (by norm_num) f).symm

/-- The 65536 rows as 64 images of 32 lines of 32 places. -/
theorem sum_images (f : Fin 65536 → M) :
    (∑ b : Fin 64, ∑ h : Fin 32, ∑ w : Fin 32, f ⟨b.val * 1024 + (h.val * 32 + w.val), by omega⟩) = ∑ i, f i := by
  rw [sum_blocks 64 1024 (by norm_num) f]
  refine Finset.sum_congr rfl fun k _ => ?_
  exact (sum_blocks 32 32 (by norm_num) fun p : Fin 1024 => f ⟨k.val * 1024 + p.val, by omega⟩).symm

end Cert.Masked

end
-- ==== Proof.KI.Sums.lean ====
/- What the scratch buffers hold once the first sweep is over, over the extended reals: the masked sums over all the
   rows and the number of selected rows. -/
module

public import proofs.«01_k».proof.Proof.KI.Blocks
public import proofs.«01_k».proof.Proof.KI.Arrays
public import proofs.«01_k».proof.Proof.Split

@[expose] public section

set_option maxRecDepth 16384

noncomputable section

namespace Cert.KernelIdeal.Norm

open Cert.KernelIdeal.Gen
open Idealize.ShloMosaic Idealize.ShloMosaic.TcCoe

variable (m : (ℓ : Loc nD τ sig) → Buf (Elt Ideal) ℓ)

/-- The value of row `i` in channel `ch`. -/
abbrev xAt (c : Dev nD) (ch : Fin 384) (i : Fin 65536) : EReal := rowsX m c (ix2 i ch)
/-- The weight of row `i`. -/
abbrev wAt (c : Dev nD) (i : Fin 65536) : EReal := rowsW m c (ix2 ⟨i.val / 128, by omega⟩ ⟨i.val % 128, by omega⟩)

/-- The upper half of two stacked blocks. -/
theorem sumRows_stack (t b : Vec Ideal S8x384 .f32) (r : Fin 8) (ch : Fin 384) :
    sumRows (stack8 t b) (ix2 r ch) = t (ix2 r ch) := by
  unfold sumRows
  show stack8 t b _ = _
  unfold stack8
  refine (dif_pos (show 0 + 1 * r.val < 8 by omega)).trans ?_
  congr 1
  exact (ix2_inj _ _ _ _).mpr ⟨Fin.ext (show 0 + 1 * r.val = r.val by omega), Fin.ext (show 0 + 1 * ch.val = ch.val by omega)⟩

/-- The lower half of two stacked blocks. -/
theorem sqRows_stack (t b : Vec Ideal S8x384 .f32) (r : Fin 8) (ch : Fin 384) :
    sqRows (stack8 t b) (ix2 r ch) = b (ix2 r ch) := by
  unfold sqRows
  show stack8 t b _ = _
  unfold stack8
  refine (dif_neg (show ¬8 + 1 * r.val < 8 by omega)).trans ?_
  congr 1
  exact (ix2_inj _ _ _ _).mpr ⟨Fin.ext (show 8 + 1 * r.val - 8 = r.val by omega), Fin.ext (show 0 + 1 * ch.val = ch.val by omega)⟩

/-- The weight the body works with at row `p` of the block at point `t`. -/
theorem blockWeight (c : Dev nD) (t : Fin cfg0.N) (p : Fin 8192) (b : Fin 1) :
    weightCol (maskRows (grid0.coords t) (wBlk m c t)) (ix2 p b) = wAt m c ⟨t.val % 8 * 8192 + p.val, by omega⟩ := by
  refine (weights_apply t _ p b).trans ((wBlk_apply m c t _ _).trans ?_)
  congr 1
  exact (ix2_inj _ _ _ _).mpr ⟨Fin.ext (by dsimp only; omega), Fin.ext (by dsimp only; omega)⟩

/-- Cleared partial sums are zero. -/
theorem sumRows_zero (r : Fin 8) (ch : Fin 384) : sumRows (F := Ideal) (k0_pay11 (F := Ideal)) (ix2 r ch) = (0 : EReal) := by
  unfold sumRows
  show k0_pay11 (F := Ideal) _ = _
  exact pay11_apply _
theorem sqRows_zero (r : Fin 8) (ch : Fin 384) : sqRows (F := Ideal) (k0_pay11 (F := Ideal)) (ix2 r ch) = (0 : EReal) := by
  unfold sqRows
  show k0_pay11 (F := Ideal) _ = _
  exact pay11_apply _

/-- The sums of `x·w` before point `n` of the first sweep: over the rows of the blocks gone by, residue by residue. -/
theorem sumRows_at (c : Dev nD) (r : Fin 8) (ch : Fin 384) : ∀ (n : ℕ) (h : n ≤ 8),
    sumRows (sumsAt m c n) (ix2 r ch) = (∑ k : Fin n, ∑ g : Fin 1024,
      xAt m c ch ⟨k.val * 8192 + (g.val * 8 + r.val), by omega⟩ * wAt m c ⟨k.val * 8192 + (g.val * 8 + r.val), by omega⟩ : EReal)
  | 0, _ => (sumRows_zero r ch).trans (Fin.sum_univ_zero (M := EReal) _).symm
  | n + 1, h => by
    have hn : n % 8 = n := Nat.mod_eq_of_lt (by omega)
    rw [sumsAt_succ m c (pt n (by omega)) (by show n < 8; omega)]
    unfold addBlock
    rw [sumRows_stack, pay4_apply, sumRows_at c r ch n (by omega)]
    refine Eq.trans ?_ (Fin.sum_univ_castSucc (M := EReal) (n := n) _).symm
    refine congrArg _ ?_
    refine Finset.sum_congr rfl fun g _ => ?_
    rw [blockWeight, xBlk_apply]
    simp only [hn, Fin.val_last]

/-- The sums of `x·w·x`, likewise. -/
theorem sqRows_at (c : Dev nD) (r : Fin 8) (ch : Fin 384) : ∀ (n : ℕ) (h : n ≤ 8),
    sqRows (sumsAt m c n) (ix2 r ch) = (∑ k : Fin n, ∑ g : Fin 1024,
      xAt m c ch ⟨k.val * 8192 + (g.val * 8 + r.val), by omega⟩ * wAt m c ⟨k.val * 8192 + (g.val * 8 + r.val), by omega⟩
        * xAt m c ch ⟨k.val * 8192 + (g.val * 8 + r.val), by omega⟩ : EReal)
  | 0, _ => (sqRows_zero r ch).trans (Fin.sum_univ_zero (M := EReal) _).symm
  | n + 1, h => by
    have hn : n % 8 = n := Nat.mod_eq_of_lt (by omega)
    rw [sumsAt_succ m c (pt n (by omega)) (by show n < 8; omega)]
    unfold addBlock
    rw [sqRows_stack, pay5_apply, sqRows_at c r ch n (by omega)]
    refine Eq.trans ?_ (Fin.sum_univ_castSucc (M := EReal) (n := n) _).symm
    refine congrArg _ ?_
    refine Finset.sum_congr rfl fun g _ => ?_
    rw [blockWeight, xBlk_apply]
    simp only [hn, Fin.val_last]

/-- All the residues together: the masked sum over all the rows. -/
theorem total_sum (c : Dev nD) (ch : Fin 384) :
    (∑ r : Fin 8, sumRows (sumsAt m c 8) (ix2 r ch) : EReal) = ∑ i, xAt m c ch i * wAt m c i := by
  rw [← Cert.Masked.sum_residues]
  exact Finset.sum_congr rfl fun r _ => sumRows_at m c r ch 8 le_rfl

/-- All the residues together: the masked sum of squares. -/
theorem total_sq (c : Dev nD) (ch : Fin 384) :
    (∑ r : Fin 8, sqRows (sumsAt m c 8) (ix2 r ch) : EReal) = ∑ i, xAt m c ch i * wAt m c i * xAt m c ch i := by
  rw [← Cert.Masked.sum_residues]
  exact Finset.sum_congr rfl fun r _ => sqRows_at m c r ch 8 le_rfl

/-- The count is the sum of the weights. -/
theorem total_count (c : Dev nD) : countAt m c count0 = (∑ i, wAt m c i : EReal) := by
  unfold countAt countWord
  rw [pay12_apply, ← Cert.Masked.sum_lines]
  refine Finset.sum_congr rfl fun a _ => Finset.sum_congr rfl fun b _ => ?_
  rw [wBlk_apply]
  congr 1
  exact (ix2_inj _ _ _ _).mpr ⟨Fin.ext (by dsimp only; omega), Fin.ext (by dsimp only; omega)⟩

end Cert.KernelIdeal.Norm

end
-- ==== Proof.KI.Affine.lean ====
/- Scale and shift as the kernel computes them, and the block of the result a grid point writes, in terms of the masked
   sums over all the rows. -/
module

public import proofs.«01_k».proof.Proof.KI.Sums

@[expose] public section

set_option maxRecDepth 16384

noncomputable section

namespace Cert.KernelIdeal.Norm

open Cert.KernelIdeal.Gen
open Idealize.ShloMosaic Idealize.ShloMosaic.TcCoe

variable (m : (ℓ : Loc nD τ sig) → Buf (Elt Ideal) ℓ)

/-- The first of two stacked rows. -/
theorem scaleRow_stack (t b : Vec Ideal S1x384 .f32) (a : Fin 1) (ch : Fin 384) :
    scaleRow (stack1 t b) (ix2 a ch) = t (ix2 0 ch) := by
  unfold scaleRow
  show stack1 t b _ = _
  unfold stack1
  exact (if_pos (show 0 + 1 * a.val = 0 by omega)).trans
    (congrArg t ((ix2_inj _ _ _ _).mpr ⟨rfl, Fin.ext (show 0 + 1 * ch.val = ch.val by omega)⟩))

/-- The second of two stacked rows. -/
theorem shiftRow_stack (t b : Vec Ideal S1x384 .f32) (a : Fin 1) (ch : Fin 384) :
    shiftRow (stack1 t b) (ix2 a ch) = b (ix2 0 ch) := by
  unfold shiftRow
  show stack1 t b _ = _
  unfold stack1
  exact (if_neg (show ¬1 + 1 * a.val = 0 by omega)).trans
    (congrArg b ((ix2_inj _ _ _ _).mpr ⟨rfl, Fin.ext (show 0 + 1 * ch.val = ch.val by omega)⟩))

/-- The masked mean of channel `ch`. -/
abbrev meanAt (c : Dev nD) (ch : Fin 384) : EReal :=
  Ideal.div (∑ i, xAt m c ch i * wAt m c i) (∑ i, wAt m c i)

/-- The scale of channel `ch`. -/
abbrev scaleAt (c : Dev nD) (ch : Fin 384) : EReal :=
  (argG m c (ix1 ch) : EReal) * Ideal.rsqrt (Ideal.div (∑ i, xAt m c ch i * wAt m c i * xAt m c ch i) (∑ i, wAt m c i)
    - meanAt m c ch * meanAt m c ch + Ideal.ofBits .f32 0x3727C5AC#32)

/-- Scale, from the sums. -/
theorem pay7_apply (s q : Vec Ideal S8x384 .f32) (k : Elt Ideal .f32) (g : Vec Ideal S384 .f32) (a : Fin 1) (ch : Fin 384) :
    k0_pay7 s q k g (ix2 a ch) = (g (ix1 ch) : EReal) * Ideal.rsqrt (Ideal.div (∑ r : Fin 8, q (ix2 r ch)) k
      - Ideal.div (∑ r : Fin 8, s (ix2 r ch)) k * Ideal.div (∑ r : Fin 8, s (ix2 r ch)) k + Ideal.ofBits .f32 0x3727C5AC#32) := by
  unfold k0_pay7
  dsimp only
  simp only [pointwise, pay6_apply]

/-- Shift, from the sums and the scale. -/
theorem pay9_apply (s q : Vec Ideal S8x384 .f32) (k : Elt Ideal .f32) (g b : Vec Ideal S384 .f32) (a : Fin 1) (ch : Fin 384) :
    k0_pay9 s q k g b (ix2 a ch)
      = ((b (ix1 ch) : EReal) - Ideal.div (∑ r : Fin 8, s (ix2 r ch)) k * k0_pay7 s q k g (ix2 a ch) : EReal) := by
  unfold k0_pay9
  simp only [pointwise, pay6_apply]

/-- The scale row holds the scales. -/
theorem scaleRow_apply (c : Dev nD) (a : Fin 1) (ch : Fin 384) :
    scaleRow (affineAt m c) (ix2 a ch) = scaleAt m c ch := by
  unfold affineAt affine
  rw [scaleRow_stack]
  unfold k0_pay8
  rw [shapeCast_id, pay7_apply, total_sum, total_sq, total_count, gBlk_apply]

/-- The shift row holds `beta` less the scaled mean. -/
theorem shiftRow_apply (c : Dev nD) (a : Fin 1) (ch : Fin 384) :
    shiftRow (affineAt m c) (ix2 a ch) = ((argB m c (ix1 ch) : EReal) - meanAt m c ch * scaleAt m c ch : EReal) := by
  unfold affineAt affine
  rw [shiftRow_stack]
  rw [pay9_apply, pay7_apply, total_sum, total_sq, total_count, gBlk_apply, bBlk_apply]

/-- The normalised block at point `t` of the second sweep. -/
theorem outBlock_apply (c : Dev nD) (t : Fin cfg0.N) (p : Fin 8192) (ch : Fin 384) :
    outBlock (grid0.coords t) (xBlk m c t) (wBlk m c t) (affineAt m c) (ix2 p ch)
      = if (0 : EReal) < wAt m c ⟨t.val % 8 * 8192 + p.val, by omega⟩
        then (xAt m c ch ⟨t.val % 8 * 8192 + p.val, by omega⟩ * scaleAt m c ch
          + ((argB m c (ix1 ch) : EReal) - meanAt m c ch * scaleAt m c ch) : EReal)
        else xAt m c ch ⟨t.val % 8 * 8192 + p.val, by omega⟩ := by
  unfold outBlock
  rw [pay10_apply, blockWeight, xBlk_apply, scaleRow_apply, shiftRow_apply]

end Cert.KernelIdeal.Norm

end
-- ==== Proof.KI.Value.lean ====
/- What the kernel's run leaves: every row of the result array, and the result read off it. -/
module

public import proofs.«01_k».proof.Proof.KI.Affine

@[expose] public section

set_option maxRecDepth 16384

noncomputable section

namespace Cert.KernelIdeal.Norm

open Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- One entry of the result: a selected row is scaled and shifted, any other is `x`. -/
def outAt (c : Dev nD) (i : Fin 65536) (ch : Fin 384) : EReal :=
  if (0 : EReal) < wAt m c i
  then xAt m c ch i * scaleAt m c ch + ((argB m c (ix1 ch) : EReal) - meanAt m c ch * scaleAt m c ch)
  else xAt m c ch i

/-- The result array: the rows so computed. -/
def rowsOut (c : Dev nD) : Vec Ideal S65536x384 .f32 := fun j => outAt m c (j 0) (j 1)

/-- The normalised block at point `t`, in those terms. -/
theorem outBlock_out (c : Dev nD) (t : Fin cfg0.N) (p : Fin 8192) (ch : Fin 384) :
    outBlock (grid0.coords t) (xBlk m c t) (wBlk m c t) (affineAt m c) (ix2 p ch)
      = outAt m c ⟨t.val % 8 * 8192 + p.val, by omega⟩ ch := by
  rw [outBlock_apply]
  unfold outAt
  rfl

/-- The block staged for the result is written back whole. -/
theorem cut_apply (t : Fin cfg0.N) (f : Vec Ideal S8192x384 .f32) (j : S8192x384.Idx) :
    (cfg0.win 4).cut (grid0.coords t) f j = f (ix2 (j 0) (j 1)) :=
  congrArg f (eq_ix2 j)

/-- Every write-back writes its part of that array. -/
theorem flushed_eq (c : Dev nD) (t : Fin cfg0.N) (hf : (cfg0.win 4).flush t = true) :
    (dats m 0 c).flushed 4 t = ((cfg0.win 4).blk t).view.read (Elt Ideal) (rowsOut m c) := by
  have h8 : 8 ≤ t.val := (flush_4 t).mp hf
  have ht : t.val < 16 := lt_of_lt_of_eq t.isLt N_0
  show (cfg0.win 4).cut (grid0.coords t) ((dats m 0 c).after 4 t) = _
  rw [after_4]
  funext j
  rw [View.read_apply]
  refine (cut_apply t _ j).trans ((outBlock_out m c t (j 0) (j 1)).trans ?_)
  unfold rowsOut
  refine congrArg₂ (outAt m c) (Fin.ext ?_) (Fin.ext ?_)
  · show t.val % 8 * 8192 + (j 0).val = win0_4.index t 0 * 8192 + 1 * (j 0).val
    rw [(index_4 t).1]; omega
  · show (j 1).val = win0_4.index t 1 * 384 + 1 * (j 1).val
    rw [(index_4 t).2]; omega

/-- The eight write-backs cover the array, so the array ends holding those rows. -/
theorem final_rows (c : Dev nD) : (dats m 0 c).arrAt 4 cfg0.N = rowsOut m c :=
  (dats m 0 c).arrAt_eq_of_cover 4 (rowsOut m c) (flushed_eq m c) fun i => by
    have h0 : (i 0 : Nat) < 65536 := (i 0).isLt
    have h1 : (i 1 : Nat) < 384 := (i 1).isLt
    have hlt : 8 + (i 0 : Nat) / 8192 < 16 := by omega
    refine ⟨pt (8 + (i 0 : Nat) / 8192) hlt, (flush_4 _).mpr (Nat.le_add_right _ _), ?_⟩
    change i ∈ ((View.whole main_v6).slice (win0_4.rect (pt (8 + (i 0 : Nat) / 8192) hlt))).set
    rw [View.set_slice_whole, Rect.mem_set_unit]
    intro a
    match a with
    | ⟨0, _⟩ =>
      show win0_4.index _ 0 * 8192 ≤ (i 0 : Nat) ∧ (i 0 : Nat) < win0_4.index _ 0 * 8192 + 8192
      rw [(index_4 _).1]
      show (8 + (i 0 : Nat) / 8192 - 8) * 8192 ≤ (i 0 : Nat) ∧ (i 0 : Nat) < (8 + (i 0 : Nat) / 8192 - 8) * 8192 + 8192
      omega
    | ⟨1, _⟩ =>
      show win0_4.index _ 1 * 384 ≤ (i 1 : Nat) ∧ (i 1 : Nat) < win0_4.index _ 1 * 384 + 384
      rw [(index_4 _).2]
      omega

/-- The result as the host reads it off the array. -/
def result (c : Dev nD) : Vec Ideal S64x384x32x32 .f32 :=
  transpose S64x384x32x32 [0, 3, 1, 2] (shapeCast S64x32x32x384 (rowsOut m c) shapeCasts_S65536x384_S64x32x32x384)
    transposes_S64x32x32x384_S64x384x32x32_0_3_1_2

/-- The row of an image's line's place. -/
abbrev rowOf (b : Fin 64) (h w : Fin 32) : Fin 65536 := ⟨b.val * 1024 + (h.val * 32 + w.val), by omega⟩

/-- The result at an index. -/
theorem result_apply (c : Dev nD) (b : Fin 64) (ch : Fin 384) (h w : Fin 32) :
    result m c (ix4 b ch h w) = outAt m c (rowOf b h w) ch := by
  unfold result
  simp only [pointwise]
  unfold rowsOut
  refine congrArg (fun i => outAt m c i ch) (Fin.ext ?_)
  show b.val * 1024 + h.val * 32 + w.val = b.val * 1024 + (h.val * 32 + w.val)
  omega

/-- After the host's last two operations `main_v8` holds the result. -/
theorem tail_eq (c : Dev nD) :
    Pipeline.afterTail₀ cfgs (dats m) 0 (V0 m) [hostOps1] c main_v8 = result m c := by
  unfold Pipeline.afterTail₀ result
  rw [← final_rows m c]
  have hA : Pipeline.withArrays (cfgs 0).spec c (V0 m c) (fun w => (dats m 0 c).arrAt w (cfgs 0).N) (Proc.devRef .tc main_v6)
      = (dats m 0 c).arrAt 4 cfg0.N := Pipeline.withArrays_arr _ launch0.win.arr_inj c _ _ 4
  generalize Pipeline.withArrays (cfgs 0).spec c (V0 m c) (fun w => (dats m 0 c).arrAt w (cfgs 0).N) = W at hA
  rw [← hA]
  simp only [List.flatten_cons, List.flatten_nil, List.append_nil]
  unfold hostOps1
  after_results_simp
  rfl

/-- THE RUN: the result holds the normalised rows, the arguments are unchanged. -/
theorem run : θ_run defs (onTc (τ := τ) (main (F := Ideal))) ⟨m, fun _ => 0, ρ⟩ fun r => ∀ c : Dev nD,
      r.2.mem ((c.tc : Thread nD τ).loc main_v8) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h.1 c).2 main_v8 (by decide)).trans (tail_eq m c), h.2.1 c⟩)
    (θ_run_and (run_arrays m ρ) (frame m ρ))

end Cert.KernelIdeal.Norm

end
-- ==== Proof.RI.Value.lean ====
/- What the reference computes, over the extended reals, read at an index. -/
module

public import proofs.«01_k».proof.Proof.Gen.ReferenceIdeal.Run
public import Idealize.ShloMosaic.Lib.Pointwise

@[expose] public section

set_option maxRecDepth 16384

noncomputable section

namespace Cert.ReferenceIdeal.Value

open Cert.ReferenceIdeal Cert.ReferenceIdeal.Gen
open Idealize.ShloMosaic Idealize.ShloMosaic.TcCoe Idealize.SL.Sem

/-- The host's sum over images, lines and places, channel by channel. -/
theorem sum_channel (h : (⟨4, ![64, 384, 32, 32]⟩ : Shape).ReducesTo [0, 2, 3] S384) (v : S64x384x32x32.Idx → EReal) (init : EReal) (ch : Fin 384) :
    Ideal.hostReduceAdd h v init (ix1 ch) = init + ∑ b : Fin 64, ∑ y : Fin 32, ∑ z : Fin 32, v (ix4 b ch y z) := by
  refine congrArg (init + ·) ?_
  refine (Finset.sum_filter_eq_sum_of_fiber _ (fun k : Fin 64 × Fin 32 × Fin 32 => (ix4 k.1 ch k.2.1 k.2.2 : S64x384x32x32.Idx)) ?_ ?_ v).trans ?_
  · rintro ⟨a, b, c⟩ ⟨a', b', c'⟩ e
    obtain ⟨e1, -, e2, e3⟩ := (ix4_inj _ _ _ _ _ _ _ _).mp e
    simp only at e1 e2 e3
    rw [e1, e2, e3]
  · intro i
    constructor
    · intro e
      refine ⟨(i 0, i 2, i 3), ?_⟩
      have hc : ch.val = (i 1).val := (congrArg Fin.val (congrFun e 0)).symm
      funext a; apply Fin.ext
      match a with
      | ⟨0, _⟩ => rfl
      | ⟨1, _⟩ => exact hc
      | ⟨2, _⟩ => rfl
      | ⟨3, _⟩ => rfl
    · rintro ⟨k, rfl⟩
      funext b
      apply Fin.ext
      match b with
      | ⟨0, _⟩ => rfl
  · simp only [Fintype.sum_prod_type]

/-- The host's sum over a whole mask. -/
theorem sum_mask (h : (⟨4, ![64, 1, 32, 32]⟩ : Shape).ReducesTo [0, 1, 2, 3] S_) (v : S64x1x32x32.Idx → EReal) (init : EReal) (j : S_.Idx) :
    Ideal.hostReduceAdd h v init j = init + ∑ b : Fin 64, ∑ y : Fin 32, ∑ z : Fin 32, v (ix4 b 0 y z) := by
  refine congrArg (init + ·) ?_
  rw [Finset.filter_true_of_mem (fun i _ => funext fun a => a.elim0), sum_idx4]
  simp

/-- The word of `0.0` is zero. -/
theorem zero_word : Ideal.ofBits .f32 0x00000000#32 = 0 := by simp [Ideal.ofBits, Ideal.ieee]

/-- The host's sum over images, lines and places from `0.0`, as the program spells it. -/
theorem reduce_channel (v : Vec Ideal S64x384x32x32 .f32) (ch : Fin 384) :
    Host.reduceAdd (F := Ideal) (φ := .f32) v (constant S_ .f32 0x00000000#32) reducesTo_S64x384x32x32_S384_d0_2_3 h_S_ (ix1 ch)
      = (∑ b : Fin 64, ∑ y : Fin 32, ∑ z : Fin 32, v (ix4 b ch y z) : EReal) := by
  rw [Host.reduceAdd_apply, Ideal.hostReduceAdd_def, sum_channel]
  exact (congrArg (· + _) zero_word).trans (zero_add _)

/-- The weight of a place of an image: one where the mask is off. -/
abbrev weight (M : Vec Ideal S64x1x32x32 .i1) (b : Fin 64) (y z : Fin 32) : EReal :=
  FloatOps.uitofp (F := Ideal) .f32 (~~~M (ix4 b 0 y z))

variable (X : Vec Ideal S64x384x32x32 .f32) (M : Vec Ideal S64x1x32x32 .i1) (G B : Vec Ideal S384 .f32)

/-- The weights, for every channel. -/
def weights : Vec Ideal S64x384x32x32 .f32 :=
  broadcastInDim S64x384x32x32 ![0, 1, 2, 3] bcast_S64x1x32x32_S64x384x32x32_0_1_2_3 (uitofp (F := Ideal) .f32 (noti M))
/-- The number of selected places. -/
def count : Vec Ideal S_ .f32 :=
  Host.reduceAdd (uitofp (F := Ideal) .f32 (noti M)) (constant S_ .f32 0x00000000#32) reducesTo_S64x1x32x32_S_d0_1_2_3 h_S_
/-- The masked mean of every channel. -/
def mean : Vec Ideal S384 .f32 :=
  Host.divf (Host.reduceAdd (F := Ideal) (φ := .f32) (mulf (F := Ideal) (φ := .f32) X (weights M)) (constant S_ .f32 0x00000000#32) reducesTo_S64x384x32x32_S384_d0_2_3 h_S_)
    (broadcastInDim S384 ![] bcast_S_S384 (count M))
/-- The deviations from the mean. -/
def deviation : Vec Ideal S64x384x32x32 .f32 :=
  subf (F := Ideal) (φ := .f32) X (broadcastInDim S64x384x32x32 ![0, 1, 2, 3] bcast_S1x384x1x1_S64x384x32x32_0_1_2_3
    (broadcastInDim S1x384x1x1 ![1] bcast_S384_S1x384x1x1_1 (mean X M)))
/-- The masked variance of every channel. -/
def variance : Vec Ideal S384 .f32 :=
  Host.divf (Host.reduceAdd (F := Ideal) (φ := .f32) (mulf (F := Ideal) (φ := .f32) (mulf (F := Ideal) (φ := .f32) (deviation X M) (deviation X M)) (weights M)) (constant S_ .f32 0x00000000#32) reducesTo_S64x384x32x32_S384_d0_2_3 h_S_)
    (broadcastInDim S384 ![] bcast_S_S384 (count M))
/-- The standard deviation of every channel. -/
def spread : Vec Ideal S384 .f32 :=
  Host.sqrt (addf (F := Ideal) (φ := .f32) (variance X M) (broadcastInDim S384 ![] bcast_S_S384 (constant S_ .f32 0x3727C5AC#32)))
/-- The reference's result. -/
def result : Vec Ideal S64x384x32x32 .f32 :=
  select (broadcastInDim S64x384x32x32 ![0, 1, 2, 3] bcast_S64x1x32x32_S64x384x32x32_0_1_2_3 (noti M))
    (addf (F := Ideal) (φ := .f32) (mulf (F := Ideal) (φ := .f32) (Host.divf (F := Ideal) (φ := .f32) (deviation X M)
        (broadcastInDim S64x384x32x32 ![0, 1, 2, 3] bcast_S1x384x1x1_S64x384x32x32_0_1_2_3 (broadcastInDim S1x384x1x1 ![1] bcast_S384_S1x384x1x1_1 (spread X M))))
        (broadcastInDim S64x384x32x32 ![0, 1, 2, 3] bcast_S1x384x1x1_S64x384x32x32_0_1_2_3 (broadcastInDim S1x384x1x1 ![1] bcast_S384_S1x384x1x1_1 G)))
      (broadcastInDim S64x384x32x32 ![0, 1, 2, 3] bcast_S1x384x1x1_S64x384x32x32_0_1_2_3 (broadcastInDim S1x384x1x1 ![1] bcast_S384_S1x384x1x1_1 B)))
    X

/-- The weights, read. -/
theorem weights_apply (b : Fin 64) (ch : Fin 384) (y z : Fin 32) : weights M (ix4 b ch y z) = weight M b y z := by
  unfold weights
  simp only [pointwise]
  rfl

/-- The count is the sum of the weights. -/
theorem count_apply (j : S_.Idx) : count M j = (∑ b : Fin 64, ∑ y : Fin 32, ∑ z : Fin 32, weight M b y z : EReal) := by
  unfold count
  simp only [pointwise, sum_mask, zero_word, zero_add]

/-- The mean, read. -/
theorem mean_apply (ch : Fin 384) : mean X M (ix1 ch)
    = Ideal.div (∑ b : Fin 64, ∑ y : Fin 32, ∑ z : Fin 32, X (ix4 b ch y z) * weight M b y z)
        (∑ b : Fin 64, ∑ y : Fin 32, ∑ z : Fin 32, weight M b y z) := by
  unfold mean
  rw [Host.divf_apply, Ideal.hostDivf_def, reduce_channel]
  refine congrArg₂ Ideal.div ?_ ?_
  · simp only [mulf_apply, Ideal.mulf_def, weights_apply]
  · exact count_apply M _

/-- A value per channel, spread over `x`'s shape, read. -/
theorem channel_apply (v : Vec Ideal S384 .f32) (b : Fin 64) (ch : Fin 384) (y z : Fin 32) :
    (broadcastInDim S64x384x32x32 ![0, 1, 2, 3] bcast_S1x384x1x1_S64x384x32x32_0_1_2_3 (broadcastInDim S1x384x1x1 ![1] bcast_S384_S1x384x1x1_1 v)
      : Vec Ideal S64x384x32x32 .f32) (ix4 b ch y z) = v (ix1 ch) := by
  simp only [pointwise]
  rfl

/-- A bit per place, spread over `x`'s shape, read. -/
theorem place_apply (v : Vec Ideal S64x1x32x32 .i1) (b : Fin 64) (ch : Fin 384) (y z : Fin 32) :
    (broadcastInDim S64x384x32x32 ![0, 1, 2, 3] bcast_S64x1x32x32_S64x384x32x32_0_1_2_3 v : Vec Ideal S64x384x32x32 .i1) (ix4 b ch y z)
      = v (ix4 b 0 y z) := by
  simp only [pointwise]
  rfl

/-- The deviation, read. -/
theorem deviation_apply (b : Fin 64) (ch : Fin 384) (y z : Fin 32) :
    deviation X M (ix4 b ch y z) = ((X (ix4 b ch y z) : EReal) - mean X M (ix1 ch) : EReal) := by
  unfold deviation
  rw [subf_apply, Ideal.subf_def, channel_apply]

/-- The variance, read. -/
theorem variance_apply (ch : Fin 384) : variance X M (ix1 ch)
    = Ideal.div (∑ b : Fin 64, ∑ y : Fin 32, ∑ z : Fin 32,
          ((X (ix4 b ch y z) : EReal) - mean X M (ix1 ch)) * ((X (ix4 b ch y z) : EReal) - mean X M (ix1 ch)) * weight M b y z)
        (∑ b : Fin 64, ∑ y : Fin 32, ∑ z : Fin 32, weight M b y z) := by
  unfold variance
  rw [Host.divf_apply, Ideal.hostDivf_def, reduce_channel]
  refine congrArg₂ Ideal.div ?_ ?_
  · simp only [mulf_apply, Ideal.mulf_def, weights_apply, deviation_apply]
  · exact count_apply M _

/-- The standard deviation, read. -/
theorem spread_apply (ch : Fin 384) : spread X M (ix1 ch) = Ideal.sqrt (variance X M (ix1 ch) + Ideal.ofBits .f32 0x3727C5AC#32) := by
  unfold spread
  rw [Host.sqrt_apply, Ideal.hostUnary_sqrt_def, addf_apply, Ideal.addf_def]
  exact congrArg (fun e => Ideal.sqrt (variance X M (ix1 ch) + e)) (Ideal.ofBits_def _)

/-- The result, read: where the mask is off, the normalised value; elsewhere `x`. -/
theorem result_apply (b : Fin 64) (ch : Fin 384) (y z : Fin 32) : result X M G B (ix4 b ch y z)
    = if M (ix4 b 0 y z) = 0#1 then
        (Ideal.div ((X (ix4 b ch y z) : EReal) - mean X M (ix1 ch)) (spread X M (ix1 ch)) * G (ix1 ch) + B (ix1 ch) : EReal)
      else X (ix4 b ch y z) := by
  unfold result select
  rw [place_apply, addf_apply, mulf_apply, Host.divf_apply, channel_apply, channel_apply, channel_apply, deviation_apply,
    Ideal.addf_def, Ideal.mulf_def, Ideal.hostDivf_def]
  generalize (Ideal.div ((X (ix4 b ch y z) : EReal) - mean X M (ix1 ch)) (spread X M (ix1 ch)) * G (ix1 ch) + B (ix1 ch) : EReal) = v
  show Scalar.select (~~~M (ix4 b 0 y z)) v _ = _
  generalize M (ix4 b 0 y z) = k
  rcases BitVec.eq_zero_or_eq_one k with rfl | rfl
  · exact (if_pos rfl).symm
  · exact (if_neg (by decide)).symm

/-- The run of the reference ends with that result and the arguments unchanged. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v29) = result (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  run (F := Ideal) m ρ

end Cert.ReferenceIdeal.Value

end
-- ==== Proof.Math.lean ====
/- The mathematics of the equation: masked mean and variance over a finite index set, in the extended reals. -/
module

public import Idealize.ShloMosaic.PureOps.Ideal

@[expose] public section

noncomputable section

namespace Cert.Masked

open Idealize.ShloMosaic

variable {ι : Type} [Fintype ι]

/-- A finite sum of reals, taken in the extended reals, is the real sum. -/
theorem sum_real (f : ι → ℝ) : (∑ i, (f i : EReal)) = ((∑ i, f i : ℝ) : EReal) :=
  (map_sum (⟨⟨Real.toEReal, EReal.coe_zero⟩, EReal.coe_add⟩ : ℝ →+ EReal) f Finset.univ).symm

/-- The variance as the mean of the squared deviations is the mean of the squares less the square of the mean. -/
theorem variance_eq (x w : ι → ℝ) (hn : (∑ i, w i) ≠ 0) :
    (∑ i, (x i - (∑ j, x j * w j) * (1 / ∑ j, w j)) * (x i - (∑ j, x j * w j) * (1 / ∑ j, w j)) * w i) * (1 / ∑ j, w j)
      = (∑ i, x i * w i * x i) * (1 / ∑ j, w j)
        - (∑ j, x j * w j) * (1 / ∑ j, w j) * ((∑ j, x j * w j) * (1 / ∑ j, w j)) := by
  generalize hμ : (∑ j, x j * w j) * (1 / ∑ j, w j) = μ
  have h1 : ∀ i, (x i - μ) * (x i - μ) * w i = x i * w i * x i - 2 * μ * (x i * w i) + μ * μ * w i := fun i => by ring
  simp only [h1, Finset.sum_add_distrib, Finset.sum_sub_distrib, ← Finset.mul_sum]
  have h2 : (∑ j, x j * w j) = μ * ∑ j, w j := by rw [← hμ]; field_simp
  rw [h2]
  field_simp
  ring

/-- The masked normalisation of one value `x k`, as one scale and one shift, is its deviation from the masked mean over
    the masked standard deviation, times `gamma`, plus `beta`. Positions of weight zero may hold any extended real; the
    others, and `gamma`, are real; `beta` is any extended real. -/
theorem normalise_eq (x w : ι → EReal) (γ : ℝ) (β : EReal) (ε : ℝ) (hε : 0 < ε)
    (h : ∀ i, w i = 0 ∨ (w i = 1 ∧ ∃ r : ℝ, x i = r)) (k : ι) (hk : w k = 1) (N S Q : EReal)
    (hN : N = ∑ i, w i) (hS : S = ∑ i, x i * w i) (hQ : Q = ∑ i, x i * w i * x i) :
    x k * (γ * Ideal.rsqrt (Ideal.div Q N - Ideal.div S N * Ideal.div S N + ε))
        + (β - Ideal.div S N * (γ * Ideal.rsqrt (Ideal.div Q N - Ideal.div S N * Ideal.div S N + ε)))
      = Ideal.div (x k - Ideal.div S N)
          (Ideal.sqrt (Ideal.div (∑ i, (x i - Ideal.div S N) * (x i - Ideal.div S N) * w i) N + ε)) * γ + β := by
  classical
  subst hN hS hQ
  have hx : ∀ i, ∃ r v : ℝ, w i = v ∧ 0 ≤ v ∧ (v = 0 ∨ x i = r) := fun i => by
    rcases h i with h0 | ⟨h1, r, hr⟩
    · exact ⟨0, 0, h0, le_refl _, .inl rfl⟩
    · exact ⟨r, 1, h1, zero_le_one, .inr hr⟩
  choose X W hW hW0 hX using hx
  have hWk : W k = 1 := by have := (hW k).symm.trans hk; exact_mod_cast this
  have hXk : x k = X k := (hX k).resolve_left (by rw [hWk]; exact one_ne_zero)
  have hn : (0 : ℝ) < ∑ i, W i :=
    lt_of_lt_of_le (by rw [hWk]; exact one_pos) (Finset.single_le_sum (fun i _ => hW0 i) (Finset.mem_univ k))
  have e0 : (∑ i, w i) = ((∑ i, W i : ℝ) : EReal) := by rw [← sum_real]; exact Finset.sum_congr rfl fun i _ => hW i
  have e1 : (∑ i, x i * w i) = ((∑ i, X i * W i : ℝ) : EReal) := by
    rw [← sum_real]; refine Finset.sum_congr rfl fun i _ => ?_
    rw [hW i]; rcases hX i with h0 | h0
    · rw [h0]; simp
    · rw [h0]; push_cast; rfl
  have e2 : (∑ i, x i * w i * x i) = ((∑ i, X i * W i * X i : ℝ) : EReal) := by
    rw [← sum_real]; refine Finset.sum_congr rfl fun i _ => ?_
    rw [hW i]; rcases hX i with h0 | h0
    · rw [h0]; simp
    · rw [h0]; push_cast; rfl
  have e3 : ∀ μ : ℝ, (∑ i, (x i - μ) * (x i - μ) * w i) = ((∑ i, (X i - μ) * (X i - μ) * W i : ℝ) : EReal) := fun μ => by
    rw [← sum_real]; refine Finset.sum_congr rfl fun i _ => ?_
    rw [hW i]; rcases hX i with h0 | h0
    · rw [h0]; simp
    · rw [h0]; push_cast; rfl
  have hv := variance_eq X W hn.ne'
  have hv0 : 0 ≤ (∑ i, (X i - (∑ j, X j * W j) * (1 / ∑ j, W j)) * (X i - (∑ j, X j * W j) * (1 / ∑ j, W j)) * W i) * (1 / ∑ j, W j) :=
    mul_nonneg (Finset.sum_nonneg fun i _ => mul_nonneg (mul_self_nonneg _) (hW0 i)) (one_div_pos.mpr hn).le
  rw [e0, e1, e2, Ideal.div_coe hn.ne', Ideal.div_coe hn.ne', ← EReal.coe_mul, ← EReal.coe_mul, e3, Ideal.div_coe hn.ne', ← EReal.coe_mul,
    ← EReal.coe_mul, ← EReal.coe_sub, ← hv, ← EReal.coe_add]
  generalize (∑ i, (X i - (∑ j, X j * W j) * (1 / ∑ j, W j)) * (X i - (∑ j, X j * W j) * (1 / ∑ j, W j)) * W i) * (1 / ∑ j, W j) = V at hv0
  generalize (∑ j, X j * W j) * (1 / ∑ j, W j) = μ
  have hp : 0 < V + ε := by linarith
  have hs : 0 < √(V + ε) := Real.sqrt_pos.mpr hp
  rw [Ideal.rsqrt_coe, if_neg (not_lt.mpr hp.le), if_neg hp.ne', Ideal.sqrt_coe, if_neg (not_lt.mpr hp.le), Ideal.div_coe hs.ne', hXk]
  rw [← EReal.coe_sub, ← EReal.coe_mul, ← EReal.coe_mul, ← EReal.coe_mul, ← EReal.coe_mul, ← EReal.coe_mul, sub_eq_add_neg,
    ← EReal.coe_neg, add_comm β, ← add_assoc, ← EReal.coe_add]
  congr 2
  ring

end Cert.Masked

end
-- ==== Proof.Equation.lean ====
/- The equation: over the extended reals, where the selected entries of `x` and the `gamma` of their channels are
   finite, the kernel's result is the reference's. -/
module

public import proofs.«01_k».proof.Proof.KI.Value
public import proofs.«01_k».proof.Proof.RI.Value
public import proofs.«01_k».proof.Proof.Math
public import proofs.«01_k».proof.Proof.KI.Pre

@[expose] public section

set_option maxRecDepth 16384

noncomputable section

namespace Cert.KernelIdeal.Norm

open Cert.KernelIdeal.Gen
open Idealize.ShloMosaic Idealize.ShloMosaic.TcCoe

variable (m : (ℓ : Loc nD τ sig) → Buf (Elt Ideal) ℓ)

/-! ## The kernel's rows as places of the images -/

/-- A row's value is `x` at its place. -/
theorem xAt_rowOf (c : Dev nD) (b : Fin 64) (ch : Fin 384) (y z : Fin 32) :
    xAt m c ch (rowOf b y z) = argX m c (ix4 b ch y z) :=
  (rowsX_apply m c _ _).trans (congrArg (argX m c) ((ix4_inj _ _ _ _ _ _ _ _).mpr
    ⟨Fin.ext (by dsimp only; omega), rfl, Fin.ext (by dsimp only; omega), Fin.ext (by dsimp only; omega)⟩))

/-- A row's weight is the weight of its place. -/
theorem wAt_rowOf (c : Dev nD) (b : Fin 64) (y z : Fin 32) :
    wAt m c (rowOf b y z) = Cert.ReferenceIdeal.Value.weight (argM m c) b y z :=
  (rowsW_apply m c _).trans (congrArg (fun j => FloatOps.uitofp (F := Ideal) .f32 (~~~argM m c j)) ((ix4_inj _ _ _ _ _ _ _ _).mpr
    ⟨Fin.ext (by dsimp only; omega), rfl, Fin.ext (by dsimp only; omega), Fin.ext (by dsimp only; omega)⟩))

/-- Every row is the row of a place. -/
theorem rowOf_surj (i : Fin 65536) : ∃ b y z, i = rowOf b y z :=
  ⟨imgOf i, lineOf i, placeOf i, Fin.ext (by dsimp only; omega)⟩

/-- The weight of a place the mask leaves is one. -/
theorem weight_one (M : Vec Ideal Cert.ReferenceIdeal.S64x1x32x32 .i1) (b : Fin 64) (y z : Fin 32) (h : M (ix4 b 0 y z) = 0#1) :
    Cert.ReferenceIdeal.Value.weight M b y z = 1 := by
  show ((((~~~M (ix4 b 0 y z)).toNat : ℕ) : ℝ) : EReal) = 1
  rw [h]
  show (((1 : ℕ) : ℝ) : EReal) = 1
  simp

/-- The weight of a place the mask takes out is zero. -/
theorem weight_zero (M : Vec Ideal Cert.ReferenceIdeal.S64x1x32x32 .i1) (b : Fin 64) (y z : Fin 32) (h : ¬M (ix4 b 0 y z) = 0#1) :
    Cert.ReferenceIdeal.Value.weight M b y z = 0 := by
  show ((((~~~M (ix4 b 0 y z)).toNat : ℕ) : ℝ) : EReal) = 0
  rw [(BitVec.eq_zero_or_eq_one (M (ix4 b 0 y z))).resolve_left h]
  show (((0 : ℕ) : ℝ) : EReal) = 0
  simp

/-! ## The sums -/

variable (c : Dev nD) (ch : Fin 384)

/-- The selected places, counted by images and by rows. -/
theorem count_sum : (∑ b : Fin 64, ∑ y : Fin 32, ∑ z : Fin 32, Cert.ReferenceIdeal.Value.weight (argM m c) b y z : EReal) = ∑ i, wAt m c i := by
  rw [← Cert.Masked.sum_images]
  exact Finset.sum_congr rfl fun b _ => Finset.sum_congr rfl fun y _ => Finset.sum_congr rfl fun z _ => (wAt_rowOf m c b y z).symm

/-- The reference's masked mean is the kernel's. -/
theorem mean_eq : Cert.ReferenceIdeal.Value.mean (argX m c) (argM m c) (ix1 ch) = meanAt m c ch := by
  rw [Cert.ReferenceIdeal.Value.mean_apply, count_sum]
  refine congrArg (fun s => Ideal.div s _) ?_
  rw [← Cert.Masked.sum_images]
  refine Finset.sum_congr rfl fun b _ => Finset.sum_congr rfl fun y _ => Finset.sum_congr rfl fun z _ => ?_
  rw [← xAt_rowOf, ← wAt_rowOf]

/-- The reference's masked variance, over the kernel's rows. -/
theorem variance_eq : Cert.ReferenceIdeal.Value.variance (argX m c) (argM m c) (ix1 ch)
    = Ideal.div (∑ i, (xAt m c ch i - meanAt m c ch) * (xAt m c ch i - meanAt m c ch) * wAt m c i) (∑ i, wAt m c i) := by
  rw [Cert.ReferenceIdeal.Value.variance_apply, count_sum, mean_eq]
  refine congrArg (fun s => Ideal.div s _) ?_
  rw [← Cert.Masked.sum_images]
  refine Finset.sum_congr rfl fun b _ => Finset.sum_congr rfl fun y _ => Finset.sum_congr rfl fun z _ => ?_
  rw [← xAt_rowOf, ← wAt_rowOf]

/-- The word both programs add to the variance is a positive real. -/
theorem eps_pos : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-! ## The equation -/

/-- The kernel's result at a place is the reference's. -/
theorem outAt_eq
    (hfin : ∀ b ch y z, argM m c (ix4 b 0 y z) = 0#1 →
      (∃ r : ℝ, argX m c (ix4 b ch y z) = (r : EReal)) ∧ ∃ g : ℝ, argG m c (ix1 ch) = (g : EReal))
    (b : Fin 64) (y z : Fin 32) :
    outAt m c (rowOf b y z) ch
      = Cert.ReferenceIdeal.Value.result (argX m c) (argM m c) (argG m c) (argB m c) (ix4 b ch y z) := by
  refine Eq.trans ?_ (Cert.ReferenceIdeal.Value.result_apply _ _ _ _ b ch y z).symm
  unfold outAt
  by_cases hM : argM m c (ix4 b 0 y z) = 0#1
  · have hk : wAt m c (rowOf b y z) = 1 := (wAt_rowOf m c b y z).trans (weight_one _ b y z hM)
    obtain ⟨g, hg⟩ := (hfin b ch y z hM).2
    obtain ⟨e, he, hε⟩ := eps_pos
    rw [if_pos (by rw [hk]; exact zero_lt_one), if_pos hM, Cert.ReferenceIdeal.Value.spread_apply, variance_eq, mean_eq, hg, hε, ← xAt_rowOf]
    refine Eq.trans ?_ (Cert.Masked.normalise_eq (xAt m c ch) (wAt m c) g (argB m c (ix1 ch)) e he ?_ (rowOf b y z) hk _ _ _ rfl rfl rfl)
    · rw [← hg, ← hε]
    · intro i
      obtain ⟨b', y', z', rfl⟩ := rowOf_surj i
      by_cases h' : argM m c (ix4 b' 0 y' z') = 0#1
      · right
        refine ⟨(wAt_rowOf m c b' y' z').trans (weight_one _ _ _ _ h'), ?_⟩
        obtain ⟨r, hr⟩ := (hfin b' ch y' z' h').1
        exact ⟨r, (xAt_rowOf m c b' ch y' z').trans hr⟩
      · left
        exact (wAt_rowOf m c b' y' z').trans (weight_zero _ _ _ _ h')
  · have hk : wAt m c (rowOf b y z) = 0 := (wAt_rowOf m c b y z).trans (weight_zero _ b y z hM)
    rw [if_neg (by rw [hk]; exact lt_irrefl _), if_neg hM, xAt_rowOf]

/-- The kernel's result is the reference's. -/
theorem result_eq
    (hfin : ∀ b ch y z, argM m c (ix4 b 0 y z) = 0#1 →
      (∃ r : ℝ, argX m c (ix4 b ch y z) = (r : EReal)) ∧ ∃ g : ℝ, argG m c (ix1 ch) = (g : EReal)) :
    result m c = Cert.ReferenceIdeal.Value.result (argX m c) (argM m c) (argG m c) (argB m c) := by
  funext j
  rw [eq_ix4 j]
  exact (result_apply m c (j 0) (j 1) (j 2) (j 3)).trans (outAt_eq m c (j 1) hfin (j 0) (j 2) (j 3))

/-! ## The precondition, read -/

/-- The word of positive infinity. -/
theorem inf_word : Ideal.ofBits .f32 0x7F800000#32 = ⊤ := by simp [Ideal.ofBits, Ideal.ieee]

/-- A value whose magnitude is below infinity is a real. -/
theorem real_of_lt (x : EReal) (h : max x (-x) < ⊤) : ∃ r : ℝ, x = r := by
  obtain ⟨h1, h2⟩ := max_lt_iff.mp h
  refine ⟨x.toReal, (EReal.coe_toReal h1.ne fun h0 => ?_).symm⟩
  rw [h0, EReal.neg_bot] at h2
  exact lt_irrefl _ h2

/-- Where the precondition is all ones, a selected entry of `x` and the `gamma` of its channel are reals. -/
theorem finite_of_pre (X : Vec Ideal S64x384x32x32 .f32) (M : Vec Ideal S64x1x32x32 .i1) (G B : Vec Ideal S384 .f32)
    (h : Cert.Pre_finite_where_selected.fn (F := Ideal) X M G B = fun _ => 1#1)
    (b : Fin 64) (ch : Fin 384) (y z : Fin 32) (hM : M (ix4 b 0 y z) = 0#1) :
    (∃ r : ℝ, X (ix4 b ch y z) = (r : EReal)) ∧ ∃ g : ℝ, G (ix1 ch) = (g : EReal) := by
  have h1 := congrFun h (ix4 b ch y z)
  have h2 : M (ix4 b 0 y z) ||| (Ideal.cmp .olt (max (X (ix4 b ch y z) : EReal) (-(X (ix4 b ch y z) : EReal))) (Ideal.ofBits .f32 0x7F800000#32)
      &&& Ideal.cmp .olt (max (G (ix1 ch) : EReal) (-(G (ix1 ch) : EReal))) (Ideal.ofBits .f32 0x7F800000#32)) = 1#1 := by
    refine Eq.trans ?_ h1
    unfold Cert.Pre_finite_where_selected.fn
    dsimp only
    simp only [pointwise]
    rfl
  rw [hM, inf_word] at h2
  have key : ∀ p q : Bool, (0#1 ||| (BitVec.ofBool p &&& BitVec.ofBool q)) = 1#1 → p = true ∧ q = true := by decide
  obtain ⟨hx, hg⟩ := key _ _ h2
  exact ⟨real_of_lt _ (of_decide_eq_true hx), real_of_lt _ (of_decide_eq_true hg)⟩

end Cert.KernelIdeal.Norm

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.K.Frame
public import proofs.«01_k».proof.Proof.KI.Frame
public import proofs.«01_k».proof.Proof.KI.Pre
public import proofs.«01_k».proof.Proof.Equation
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- The reference runs, leaves its arguments alone and ends with every counter at zero (it has none). -/
theorem frame_reference : Cert.quiescent_ReferenceIdeal := fun m ρ _ =>
  (θ_run (Cert.ReferenceIdeal.defs (F := Ideal)) _ _).mono
    (fun r h => And.intro (fun c => (h c).2) (sem_eq_zero_of_no_sems (by decide) r.2))
    (Cert.ReferenceIdeal.Value.run (F := Ideal) m ρ)

/-- From memories that agree on the arguments, under the precondition, the kernel and the reference end with the same
result. -/
theorem same_result : Cert.algebraic_KernelIdeal_ReferenceIdeal_pre_finite_where_selected := fun m g m' g' hpre hargs =>
  ⟨fun c => Cert.KernelIdeal.Norm.result m c, Cert.KernelIdeal.Norm.run m g,
    (θ_run (Cert.ReferenceIdeal.defs (F := Ideal)) _ _).mono
      (fun r h c => by
        refine ⟨(h c).1.trans ?_, (h c).2⟩
        obtain ⟨h0, h1, h2, h3⟩ := hargs c
        rw [h0, h1, h2, h3]
        exact (Cert.KernelIdeal.Norm.result_eq m c fun b ch y z hM =>
          Cert.KernelIdeal.Norm.finite_of_pre _ _ _ _ (hpre c) b ch y z hM).symm)
      (Cert.ReferenceIdeal.Value.run_result m' g')⟩

/-- Everything the certificate claims. -/
theorem claim : Cert.Claim := ⟨Cert.Kernel.Gen.facts, Cert.KernelIdeal.Gen.facts, Cert.ReferenceIdeal.Gen.facts,
  Cert.Pre_finite_where_selected.Shapes.facts,
  fun m ρ _ => Cert.Kernel.Norm.frame m ρ,
  fun m ρ _ => Cert.KernelIdeal.Norm.frame m ρ,
  fun m ρ _ => Cert.KernelIdeal.Norm.frame m ρ,
  frame_reference,
  fun m ρ _ => frame_reference m ρ trivial,
  trivial,
  same_result⟩

end Cert.Proof

end
